-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S256x4096 : Shape := ⟨2, ![256, 4096]⟩
abbrev S4x256x4096 : Shape := ⟨3, ![4, 256, 4096]⟩
abbrev S2x8x256x128 : Shape := ⟨4, ![2, 8, 256, 128]⟩
abbrev S_ : Shape := ⟨0, ![]⟩
abbrev S4 : Shape := ⟨1, ![4]⟩
abbrev S5x8 : Shape := ⟨2, ![5, 8]⟩
abbrev S1 : Shape := ⟨1, ![1]⟩
abbrev S1x256x4096 : Shape := ⟨3, ![1, 256, 4096]⟩
abbrev S256x256 : Shape := ⟨2, ![256, 256]⟩
abbrev S256x128 : Shape := ⟨2, ![256, 128]⟩
abbrev S1x1x256x128 : Shape := ⟨4, ![1, 1, 256, 128]⟩
abbrev S1x1 : Shape := ⟨2, ![1, 1]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S1024x1024, .bf16⟩
  | .local _ .vmem, ⟨1, _⟩ => ⟨S256x4096, .f32⟩
  | .local _ .vmem, ⟨2, _⟩ => ⟨S256x4096, .bf16⟩
  | .local _ .vmem, ⟨3, _⟩ => ⟨S4x256x4096, .f32⟩
  | .local _ .vmem, ⟨4, _⟩ => ⟨S2x8x256x128, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_7 : BitVec 32 := 4#32
  let v13 : BitVec 32 := Scalar.muli v10 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_13 : BitVec 32 := 2#32
  let v21 : BitVec 32 := Scalar.muli v11 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_19 : BitVec 32 := 1#32
  let v29 : BitVec 32 := Scalar.muli v12 c1_i32_19
  let v30 : BitVec 32 := Scalar.addi v28 v29
  v30.toNat
def k0_off1 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c0_i32_25 : BitVec 32 := 0#32
  ![v39.toNat, 0]
def k0_dev4 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v83 : BitVec 32 := Scalar.muli v2 c4_i32_76
  let v84 : BitVec 32 := Scalar.addi c0_i32_77 v83
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_67 v5
  let c2_i32_78 : BitVec 32 := 2#32
  let v85 : BitVec 32 := Scalar.muli v82 c2_i32_78
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v87 : BitVec 32 := Scalar.muli v8 c1_i32_79
  let v88 : BitVec 32 := Scalar.addi v86 v87
  v88.toNat
def k0_dev5 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v103 : BitVec 32 := Scalar.muli v2 c4_i32_96
  let v104 : BitVec 32 := Scalar.addi c0_i32_97 v103
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.subi c1_i32_87 v5
  let c2_i32_98 : BitVec 32 := 2#32
  let v105 : BitVec 32 := Scalar.muli v102 c2_i32_98
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v107 : BitVec 32 := Scalar.muli v8 c1_i32_99
  let v108 : BitVec 32 := Scalar.addi v106 v107
  v108.toNat
def k0_dev6 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v133 : BitVec 32 := Scalar.muli v2 c4_i32_128
  let v134 : BitVec 32 := Scalar.addi c0_i32_129 v133
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.subi c1_i32_119 v5
  let c2_i32_130 : BitVec 32 := 2#32
  let v135 : BitVec 32 := Scalar.muli v132 c2_i32_130
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v137 : BitVec 32 := Scalar.muli v8 c1_i32_131
  let v138 : BitVec 32 := Scalar.addi v136 v137
  v138.toNat
def k0_dev7 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v153 : BitVec 32 := Scalar.muli v2 c4_i32_148
  let v154 : BitVec 32 := Scalar.addi c0_i32_149 v153
  let c1_i32_139 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v152 : BitVec 32 := Scalar.subi c1_i32_139 v5
  let c2_i32_150 : BitVec 32 := 2#32
  let v155 : BitVec 32 := Scalar.muli v152 c2_i32_150
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v157 : BitVec 32 := Scalar.muli v8 c1_i32_151
  let v158 : BitVec 32 := Scalar.addi v156 v157
  v158.toNat
def k0_dev8 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v183 : BitVec 32 := Scalar.muli v2 c4_i32_180
  let v184 : BitVec 32 := Scalar.addi c0_i32_181 v183
  let c1_i32_171 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_171 v5
  let c2_i32_182 : BitVec 32 := 2#32
  let v185 : BitVec 32 := Scalar.muli v182 c2_i32_182
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v187 : BitVec 32 := Scalar.muli v8 c1_i32_183
  let v188 : BitVec 32 := Scalar.addi v186 v187
  v188.toNat
def k0_dev9 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v203 : BitVec 32 := Scalar.muli v2 c4_i32_199
  let v204 : BitVec 32 := Scalar.addi c0_i32_200 v203
  let c1_i32_191 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v202 : BitVec 32 := Scalar.subi c1_i32_191 v5
  let c2_i32_201 : BitVec 32 := 2#32
  let v205 : BitVec 32 := Scalar.muli v202 c2_i32_201
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v207 : BitVec 32 := Scalar.muli v8 c1_i32_202
  let v208 : BitVec 32 := Scalar.addi v206 v207
  v208.toNat
def k0_off2 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v240 : Index := Scalar.indexCast v39
  let c0_240 : Index := 0#32
  ![v240.toNat, 0]
def k0_off3 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c0_i32_250 : BitVec 32 := 0#32
  ![v39.toNat, 0]
def k0_dev10 (d0 : Dev nD) : Nat :=
  let c0_i32_247 : BitVec 32 := 0#32
  let c1_i32_241 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v242 : BitVec 32 := Scalar.subi c1_i32_241 v2
  let c4_i32_246 : BitVec 32 := 4#32
  let v243 : BitVec 32 := Scalar.muli v242 c4_i32_246
  let v244 : BitVec 32 := Scalar.addi c0_i32_247 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v245 : BitVec 32 := Scalar.muli v5 c2_i32_248
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v247 : BitVec 32 := Scalar.muli v8 c1_i32_249
  let v248 : BitVec 32 := Scalar.addi v246 v247
  v248.toNat
def k0_dev11 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v256 : BitVec 32 := Scalar.muli v2 c4_i32_257
  let v257 : BitVec 32 := Scalar.addi c0_i32_258 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v258 : BitVec 32 := Scalar.muli v5 c2_i32_259
  let v259 : BitVec 32 := Scalar.addi v257 v258
  let c1_i32_252 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v255 : BitVec 32 := Scalar.subi c1_i32_252 v8
  let c1_i32_260 : BitVec 32 := 1#32
  let v260 : BitVec 32 := Scalar.muli v255 c1_i32_260
  let v261 : BitVec 32 := Scalar.addi v259 v260
  v261.toNat
def k0_off4 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v291 : Index := Scalar.indexCast v39
  let c128 : Index := 128#32
  ![v291.toNat, 128]
def k0_off5 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c128_i32 : BitVec 32 := 128#32
  ![v39.toNat, 128]
def k0_dev12 (d0 : Dev nD) : Nat :=
  let c0_i32_302 : BitVec 32 := 0#32
  let c1_i32_296 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v293 : BitVec 32 := Scalar.subi c1_i32_296 v2
  let c4_i32_301 : BitVec 32 := 4#32
  let v294 : BitVec 32 := Scalar.muli v293 c4_i32_301
  let v295 : BitVec 32 := Scalar.addi c0_i32_302 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v296 : BitVec 32 := Scalar.muli v5 c2_i32_303
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v298 : BitVec 32 := Scalar.muli v8 c1_i32_304
  let v299 : BitVec 32 := Scalar.addi v297 v298
  v299.toNat
def k0_dev13 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v307 : BitVec 32 := Scalar.muli v2 c4_i32_311
  let v308 : BitVec 32 := Scalar.addi c0_i32_312 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v309 : BitVec 32 := Scalar.muli v5 c2_i32_313
  let v310 : BitVec 32 := Scalar.addi v308 v309
  let c1_i32_306 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v306 : BitVec 32 := Scalar.subi c1_i32_306 v8
  let c1_i32_314 : BitVec 32 := 1#32
  let v311 : BitVec 32 := Scalar.muli v306 c1_i32_314
  let v312 : BitVec 32 := Scalar.addi v310 v311
  v312.toNat
def k0_dev14 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v335 : BitVec 32 := Scalar.muli v2 c4_i32_340
  let v336 : BitVec 32 := Scalar.addi c0_i32_341 v335
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v334 : BitVec 32 := Scalar.subi c1_i32_332 v5
  let c2_i32_342 : BitVec 32 := 2#32
  let v337 : BitVec 32 := Scalar.muli v334 c2_i32_342
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v339 : BitVec 32 := Scalar.muli v8 c1_i32_343
  let v340 : BitVec 32 := Scalar.addi v338 v339
  v340.toNat
def k0_dev15 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v355 : BitVec 32 := Scalar.muli v2 c4_i32_359
  let v356 : BitVec 32 := Scalar.addi c0_i32_360 v355
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v354 : BitVec 32 := Scalar.subi c1_i32_351 v5
  let c2_i32_361 : BitVec 32 := 2#32
  let v357 : BitVec 32 := Scalar.muli v354 c2_i32_361
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v359 : BitVec 32 := Scalar.muli v8 c1_i32_362
  let v360 : BitVec 32 := Scalar.addi v358 v359
  v360.toNat
def k0_off6 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v392 : Index := Scalar.indexCast v39
  let c256 : Index := 256#32
  ![v392.toNat, 256]
def k0_off7 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c256_i32_409 : BitVec 32 := 256#32
  ![v39.toNat, 256]
def k0_dev16 (d0 : Dev nD) : Nat :=
  let c0_i32_406 : BitVec 32 := 0#32
  let c1_i32_400 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v394 : BitVec 32 := Scalar.subi c1_i32_400 v2
  let c4_i32_405 : BitVec 32 := 4#32
  let v395 : BitVec 32 := Scalar.muli v394 c4_i32_405
  let v396 : BitVec 32 := Scalar.addi c0_i32_406 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_407 : BitVec 32 := 2#32
  let v397 : BitVec 32 := Scalar.muli v5 c2_i32_407
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v399 : BitVec 32 := Scalar.muli v8 c1_i32_408
  let v400 : BitVec 32 := Scalar.addi v398 v399
  v400.toNat
def k0_dev17 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v408 : BitVec 32 := Scalar.muli v2 c4_i32_416
  let v409 : BitVec 32 := Scalar.addi c0_i32_417 v408
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_418 : BitVec 32 := 2#32
  let v410 : BitVec 32 := Scalar.muli v5 c2_i32_418
  let v411 : BitVec 32 := Scalar.addi v409 v410
  let c1_i32_411 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_411 v8
  let c1_i32_419 : BitVec 32 := 1#32
  let v412 : BitVec 32 := Scalar.muli v407 c1_i32_419
  let v413 : BitVec 32 := Scalar.addi v411 v412
  v413.toNat
def k0_off8 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_439 : BitVec 32 := 256#32
  let v434 : BitVec 32 := Scalar.muli v35 c256_i32_439
  let c0_i32_449 : BitVec 32 := 0#32
  ![v434.toNat, 0]
def k0_dev18 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v436 : BitVec 32 := Scalar.muli v2 c4_i32_445
  let v437 : BitVec 32 := Scalar.addi c0_i32_446 v436
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v438 : BitVec 32 := Scalar.muli v5 c2_i32_447
  let v439 : BitVec 32 := Scalar.addi v437 v438
  let c1_i32_440 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v435 : BitVec 32 := Scalar.subi c1_i32_440 v8
  let c1_i32_448 : BitVec 32 := 1#32
  let v440 : BitVec 32 := Scalar.muli v435 c1_i32_448
  let v441 : BitVec 32 := Scalar.addi v439 v440
  v441.toNat
def k0_off9 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_468 : BitVec 32 := 256#32
  let v462 : BitVec 32 := Scalar.muli v38 c256_i32_468
  let c128_i32_469 : BitVec 32 := 128#32
  let v463 : BitVec 32 := Scalar.addi v462 c128_i32_469
  let c0_i32_479 : BitVec 32 := 0#32
  ![v463.toNat, 0]
def k0_dev19 (d0 : Dev nD) : Nat :=
  let c0_i32_476 : BitVec 32 := 0#32
  let c1_i32_470 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v464 : BitVec 32 := Scalar.subi c1_i32_470 v2
  let c4_i32_475 : BitVec 32 := 4#32
  let v465 : BitVec 32 := Scalar.muli v464 c4_i32_475
  let v466 : BitVec 32 := Scalar.addi c0_i32_476 v465
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_477 : BitVec 32 := 2#32
  let v467 : BitVec 32 := Scalar.muli v5 c2_i32_477
  let v468 : BitVec 32 := Scalar.addi v466 v467
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v469 : BitVec 32 := Scalar.muli v8 c1_i32_478
  let v470 : BitVec 32 := Scalar.addi v468 v469
  v470.toNat
def k0_off10 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v500 : Index := Scalar.indexCast v39
  let c384 : Index := 384#32
  ![v500.toNat, 384]
def k0_off11 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c384_i32 : BitVec 32 := 384#32
  ![v39.toNat, 384]
def k0_dev20 (d0 : Dev nD) : Nat :=
  let c0_i32_520 : BitVec 32 := 0#32
  let c1_i32_514 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v502 : BitVec 32 := Scalar.subi c1_i32_514 v2
  let c4_i32_519 : BitVec 32 := 4#32
  let v503 : BitVec 32 := Scalar.muli v502 c4_i32_519
  let v504 : BitVec 32 := Scalar.addi c0_i32_520 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v505 : BitVec 32 := Scalar.muli v5 c2_i32_521
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_522 : BitVec 32 := 1#32
  let v507 : BitVec 32 := Scalar.muli v8 c1_i32_522
  let v508 : BitVec 32 := Scalar.addi v506 v507
  v508.toNat
def k0_dev21 (d0 : Dev nD) : Nat :=
  let c0_i32_530 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_529 : BitVec 32 := 4#32
  let v516 : BitVec 32 := Scalar.muli v2 c4_i32_529
  let v517 : BitVec 32 := Scalar.addi c0_i32_530 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_531 : BitVec 32 := 2#32
  let v518 : BitVec 32 := Scalar.muli v5 c2_i32_531
  let v519 : BitVec 32 := Scalar.addi v517 v518
  let c1_i32_524 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v515 : BitVec 32 := Scalar.subi c1_i32_524 v8
  let c1_i32_532 : BitVec 32 := 1#32
  let v520 : BitVec 32 := Scalar.muli v515 c1_i32_532
  let v521 : BitVec 32 := Scalar.addi v519 v520
  v521.toNat
def k0_off12 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_552 : BitVec 32 := 256#32
  let v542 : BitVec 32 := Scalar.muli v35 c256_i32_552
  let c128_i32_562 : BitVec 32 := 128#32
  ![v542.toNat, 128]
def k0_dev22 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v544 : BitVec 32 := Scalar.muli v2 c4_i32_558
  let v545 : BitVec 32 := Scalar.addi c0_i32_559 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_560 : BitVec 32 := 2#32
  let v546 : BitVec 32 := Scalar.muli v5 c2_i32_560
  let v547 : BitVec 32 := Scalar.addi v545 v546
  let c1_i32_553 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v543 : BitVec 32 := Scalar.subi c1_i32_553 v8
  let c1_i32_561 : BitVec 32 := 1#32
  let v548 : BitVec 32 := Scalar.muli v543 c1_i32_561
  let v549 : BitVec 32 := Scalar.addi v547 v548
  v549.toNat
def k0_off13 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_581 : BitVec 32 := 256#32
  let v570 : BitVec 32 := Scalar.muli v38 c256_i32_581
  let c128_i32_582 : BitVec 32 := 128#32
  let v571 : BitVec 32 := Scalar.addi v570 c128_i32_582
  let c128_i32_592 : BitVec 32 := 128#32
  ![v571.toNat, 128]
def k0_dev23 (d0 : Dev nD) : Nat :=
  let c0_i32_589 : BitVec 32 := 0#32
  let c1_i32_583 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v572 : BitVec 32 := Scalar.subi c1_i32_583 v2
  let c4_i32_588 : BitVec 32 := 4#32
  let v573 : BitVec 32 := Scalar.muli v572 c4_i32_588
  let v574 : BitVec 32 := Scalar.addi c0_i32_589 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_590 : BitVec 32 := 2#32
  let v575 : BitVec 32 := Scalar.muli v5 c2_i32_590
  let v576 : BitVec 32 := Scalar.addi v574 v575
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_591 : BitVec 32 := 1#32
  let v577 : BitVec 32 := Scalar.muli v8 c1_i32_591
  let v578 : BitVec 32 := Scalar.addi v576 v577
  v578.toNat
def k0_off14 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v608 : Index := Scalar.indexCast v39
  let c512 : Index := 512#32
  ![v608.toNat, 512]
def k0_off15 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c512_i32_636 : BitVec 32 := 512#32
  ![v39.toNat, 512]
def k0_dev24 (d0 : Dev nD) : Nat :=
  let c0_i32_633 : BitVec 32 := 0#32
  let c1_i32_627 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v610 : BitVec 32 := Scalar.subi c1_i32_627 v2
  let c4_i32_632 : BitVec 32 := 4#32
  let v611 : BitVec 32 := Scalar.muli v610 c4_i32_632
  let v612 : BitVec 32 := Scalar.addi c0_i32_633 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v613 : BitVec 32 := Scalar.muli v5 c2_i32_634
  let v614 : BitVec 32 := Scalar.addi v612 v613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v615 : BitVec 32 := Scalar.muli v8 c1_i32_635
  let v616 : BitVec 32 := Scalar.addi v614 v615
  v616.toNat
def k0_dev25 (d0 : Dev nD) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v624 : BitVec 32 := Scalar.muli v2 c4_i32_643
  let v625 : BitVec 32 := Scalar.addi c0_i32_644 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_645 : BitVec 32 := 2#32
  let v626 : BitVec 32 := Scalar.muli v5 c2_i32_645
  let v627 : BitVec 32 := Scalar.addi v625 v626
  let c1_i32_638 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v623 : BitVec 32 := Scalar.subi c1_i32_638 v8
  let c1_i32_646 : BitVec 32 := 1#32
  let v628 : BitVec 32 := Scalar.muli v623 c1_i32_646
  let v629 : BitVec 32 := Scalar.addi v627 v628
  v629.toNat
def k0_off16 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_666 : BitVec 32 := 256#32
  let v650 : BitVec 32 := Scalar.muli v35 c256_i32_666
  let c256_i32_676 : BitVec 32 := 256#32
  ![v650.toNat, 256]
def k0_dev26 (d0 : Dev nD) : Nat :=
  let c0_i32_673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_672 : BitVec 32 := 4#32
  let v652 : BitVec 32 := Scalar.muli v2 c4_i32_672
  let v653 : BitVec 32 := Scalar.addi c0_i32_673 v652
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_674 : BitVec 32 := 2#32
  let v654 : BitVec 32 := Scalar.muli v5 c2_i32_674
  let v655 : BitVec 32 := Scalar.addi v653 v654
  let c1_i32_667 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v651 : BitVec 32 := Scalar.subi c1_i32_667 v8
  let c1_i32_675 : BitVec 32 := 1#32
  let v656 : BitVec 32 := Scalar.muli v651 c1_i32_675
  let v657 : BitVec 32 := Scalar.addi v655 v656
  v657.toNat
def k0_off17 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_695 : BitVec 32 := 256#32
  let v678 : BitVec 32 := Scalar.muli v38 c256_i32_695
  let c128_i32_696 : BitVec 32 := 128#32
  let v679 : BitVec 32 := Scalar.addi v678 c128_i32_696
  let c256_i32_706 : BitVec 32 := 256#32
  ![v679.toNat, 256]
def k0_dev27 (d0 : Dev nD) : Nat :=
  let c0_i32_703 : BitVec 32 := 0#32
  let c1_i32_697 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v680 : BitVec 32 := Scalar.subi c1_i32_697 v2
  let c4_i32_702 : BitVec 32 := 4#32
  let v681 : BitVec 32 := Scalar.muli v680 c4_i32_702
  let v682 : BitVec 32 := Scalar.addi c0_i32_703 v681
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_704 : BitVec 32 := 2#32
  let v683 : BitVec 32 := Scalar.muli v5 c2_i32_704
  let v684 : BitVec 32 := Scalar.addi v682 v683
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_705 : BitVec 32 := 1#32
  let v685 : BitVec 32 := Scalar.muli v8 c1_i32_705
  let v686 : BitVec 32 := Scalar.addi v684 v685
  v686.toNat
def k0_off18 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v744 : Index := Scalar.indexCast v39
  let c640 : Index := 640#32
  ![v744.toNat, 640]
def k0_off19 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c640_i32 : BitVec 32 := 640#32
  ![v39.toNat, 640]
def k0_dev28 (d0 : Dev nD) : Nat :=
  let c0_i32_781 : BitVec 32 := 0#32
  let c1_i32_775 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v746 : BitVec 32 := Scalar.subi c1_i32_775 v2
  let c4_i32_780 : BitVec 32 := 4#32
  let v747 : BitVec 32 := Scalar.muli v746 c4_i32_780
  let v748 : BitVec 32 := Scalar.addi c0_i32_781 v747
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_782 : BitVec 32 := 2#32
  let v749 : BitVec 32 := Scalar.muli v5 c2_i32_782
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_783 : BitVec 32 := 1#32
  let v751 : BitVec 32 := Scalar.muli v8 c1_i32_783
  let v752 : BitVec 32 := Scalar.addi v750 v751
  v752.toNat
def k0_dev29 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v760 : BitVec 32 := Scalar.muli v2 c4_i32_790
  let v761 : BitVec 32 := Scalar.addi c0_i32_791 v760
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v762 : BitVec 32 := Scalar.muli v5 c2_i32_792
  let v763 : BitVec 32 := Scalar.addi v761 v762
  let c1_i32_785 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v759 : BitVec 32 := Scalar.subi c1_i32_785 v8
  let c1_i32_793 : BitVec 32 := 1#32
  let v764 : BitVec 32 := Scalar.muli v759 c1_i32_793
  let v765 : BitVec 32 := Scalar.addi v763 v764
  v765.toNat
def k0_off20 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_813 : BitVec 32 := 256#32
  let v786 : BitVec 32 := Scalar.muli v35 c256_i32_813
  let c384_i32_823 : BitVec 32 := 384#32
  ![v786.toNat, 384]
def k0_dev30 (d0 : Dev nD) : Nat :=
  let c0_i32_820 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_819 : BitVec 32 := 4#32
  let v788 : BitVec 32 := Scalar.muli v2 c4_i32_819
  let v789 : BitVec 32 := Scalar.addi c0_i32_820 v788
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_821 : BitVec 32 := 2#32
  let v790 : BitVec 32 := Scalar.muli v5 c2_i32_821
  let v791 : BitVec 32 := Scalar.addi v789 v790
  let c1_i32_814 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v787 : BitVec 32 := Scalar.subi c1_i32_814 v8
  let c1_i32_822 : BitVec 32 := 1#32
  let v792 : BitVec 32 := Scalar.muli v787 c1_i32_822
  let v793 : BitVec 32 := Scalar.addi v791 v792
  v793.toNat
def k0_off21 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_842 : BitVec 32 := 256#32
  let v814 : BitVec 32 := Scalar.muli v38 c256_i32_842
  let c128_i32_843 : BitVec 32 := 128#32
  let v815 : BitVec 32 := Scalar.addi v814 c128_i32_843
  let c384_i32_853 : BitVec 32 := 384#32
  ![v815.toNat, 384]
def k0_dev31 (d0 : Dev nD) : Nat :=
  let c0_i32_850 : BitVec 32 := 0#32
  let c1_i32_844 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_844 v2
  let c4_i32_849 : BitVec 32 := 4#32
  let v817 : BitVec 32 := Scalar.muli v816 c4_i32_849
  let v818 : BitVec 32 := Scalar.addi c0_i32_850 v817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_851 : BitVec 32 := 2#32
  let v819 : BitVec 32 := Scalar.muli v5 c2_i32_851
  let v820 : BitVec 32 := Scalar.addi v818 v819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v821 : BitVec 32 := Scalar.muli v8 c1_i32_852
  let v822 : BitVec 32 := Scalar.addi v820 v821
  v822.toNat
def k0_off22 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v880 : Index := Scalar.indexCast v39
  let c768 : Index := 768#32
  ![v880.toNat, 768]
def k0_off23 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c768_i32_931 : BitVec 32 := 768#32
  ![v39.toNat, 768]
def k0_dev32 (d0 : Dev nD) : Nat :=
  let c0_i32_928 : BitVec 32 := 0#32
  let c1_i32_922 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v882 : BitVec 32 := Scalar.subi c1_i32_922 v2
  let c4_i32_927 : BitVec 32 := 4#32
  let v883 : BitVec 32 := Scalar.muli v882 c4_i32_927
  let v884 : BitVec 32 := Scalar.addi c0_i32_928 v883
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_929 : BitVec 32 := 2#32
  let v885 : BitVec 32 := Scalar.muli v5 c2_i32_929
  let v886 : BitVec 32 := Scalar.addi v884 v885
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_930 : BitVec 32 := 1#32
  let v887 : BitVec 32 := Scalar.muli v8 c1_i32_930
  let v888 : BitVec 32 := Scalar.addi v886 v887
  v888.toNat
def k0_dev33 (d0 : Dev nD) : Nat :=
  let c0_i32_939 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_938 : BitVec 32 := 4#32
  let v896 : BitVec 32 := Scalar.muli v2 c4_i32_938
  let v897 : BitVec 32 := Scalar.addi c0_i32_939 v896
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_940 : BitVec 32 := 2#32
  let v898 : BitVec 32 := Scalar.muli v5 c2_i32_940
  let v899 : BitVec 32 := Scalar.addi v897 v898
  let c1_i32_933 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v895 : BitVec 32 := Scalar.subi c1_i32_933 v8
  let c1_i32_941 : BitVec 32 := 1#32
  let v900 : BitVec 32 := Scalar.muli v895 c1_i32_941
  let v901 : BitVec 32 := Scalar.addi v899 v900
  v901.toNat
def k0_off24 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_961 : BitVec 32 := 256#32
  let v922 : BitVec 32 := Scalar.muli v35 c256_i32_961
  let c512_i32_971 : BitVec 32 := 512#32
  ![v922.toNat, 512]
def k0_dev34 (d0 : Dev nD) : Nat :=
  let c0_i32_968 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_967 : BitVec 32 := 4#32
  let v924 : BitVec 32 := Scalar.muli v2 c4_i32_967
  let v925 : BitVec 32 := Scalar.addi c0_i32_968 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_969 : BitVec 32 := 2#32
  let v926 : BitVec 32 := Scalar.muli v5 c2_i32_969
  let v927 : BitVec 32 := Scalar.addi v925 v926
  let c1_i32_962 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v923 : BitVec 32 := Scalar.subi c1_i32_962 v8
  let c1_i32_970 : BitVec 32 := 1#32
  let v928 : BitVec 32 := Scalar.muli v923 c1_i32_970
  let v929 : BitVec 32 := Scalar.addi v927 v928
  v929.toNat
def k0_off25 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_990 : BitVec 32 := 256#32
  let v950 : BitVec 32 := Scalar.muli v38 c256_i32_990
  let c128_i32_991 : BitVec 32 := 128#32
  let v951 : BitVec 32 := Scalar.addi v950 c128_i32_991
  let c512_i32_1001 : BitVec 32 := 512#32
  ![v951.toNat, 512]
def k0_dev35 (d0 : Dev nD) : Nat :=
  let c0_i32_998 : BitVec 32 := 0#32
  let c1_i32_992 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v952 : BitVec 32 := Scalar.subi c1_i32_992 v2
  let c4_i32_997 : BitVec 32 := 4#32
  let v953 : BitVec 32 := Scalar.muli v952 c4_i32_997
  let v954 : BitVec 32 := Scalar.addi c0_i32_998 v953
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_999 : BitVec 32 := 2#32
  let v955 : BitVec 32 := Scalar.muli v5 c2_i32_999
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1000 : BitVec 32 := 1#32
  let v957 : BitVec 32 := Scalar.muli v8 c1_i32_1000
  let v958 : BitVec 32 := Scalar.addi v956 v957
  v958.toNat
def k0_off26 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let v1016 : Index := Scalar.indexCast v39
  let c896 : Index := 896#32
  ![v1016.toNat, 896]
def k0_off27 (d0 : Dev nD) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v39 : BitVec 32 := Scalar.muli v32 c256_i32
  let c896_i32 : BitVec 32 := 896#32
  ![v39.toNat, 896]
def k0_dev36 (d0 : Dev nD) : Nat :=
  let c0_i32_1076 : BitVec 32 := 0#32
  let c1_i32_1070 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1018 : BitVec 32 := Scalar.subi c1_i32_1070 v2
  let c4_i32_1075 : BitVec 32 := 4#32
  let v1019 : BitVec 32 := Scalar.muli v1018 c4_i32_1075
  let v1020 : BitVec 32 := Scalar.addi c0_i32_1076 v1019
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1077 : BitVec 32 := 2#32
  let v1021 : BitVec 32 := Scalar.muli v5 c2_i32_1077
  let v1022 : BitVec 32 := Scalar.addi v1020 v1021
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1078 : BitVec 32 := 1#32
  let v1023 : BitVec 32 := Scalar.muli v8 c1_i32_1078
  let v1024 : BitVec 32 := Scalar.addi v1022 v1023
  v1024.toNat
def k0_dev37 (d0 : Dev nD) : Nat :=
  let c0_i32_1086 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1085 : BitVec 32 := 4#32
  let v1032 : BitVec 32 := Scalar.muli v2 c4_i32_1085
  let v1033 : BitVec 32 := Scalar.addi c0_i32_1086 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1087 : BitVec 32 := 2#32
  let v1034 : BitVec 32 := Scalar.muli v5 c2_i32_1087
  let v1035 : BitVec 32 := Scalar.addi v1033 v1034
  let c1_i32_1080 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1031 : BitVec 32 := Scalar.subi c1_i32_1080 v8
  let c1_i32_1088 : BitVec 32 := 1#32
  let v1036 : BitVec 32 := Scalar.muli v1031 c1_i32_1088
  let v1037 : BitVec 32 := Scalar.addi v1035 v1036
  v1037.toNat
def k0_off28 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_1108 : BitVec 32 := 256#32
  let v1058 : BitVec 32 := Scalar.muli v35 c256_i32_1108
  let c640_i32_1118 : BitVec 32 := 640#32
  ![v1058.toNat, 640]
def k0_dev38 (d0 : Dev nD) : Nat :=
  let c0_i32_1115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1114 : BitVec 32 := 4#32
  let v1060 : BitVec 32 := Scalar.muli v2 c4_i32_1114
  let v1061 : BitVec 32 := Scalar.addi c0_i32_1115 v1060
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1116 : BitVec 32 := 2#32
  let v1062 : BitVec 32 := Scalar.muli v5 c2_i32_1116
  let v1063 : BitVec 32 := Scalar.addi v1061 v1062
  let c1_i32_1109 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1059 : BitVec 32 := Scalar.subi c1_i32_1109 v8
  let c1_i32_1117 : BitVec 32 := 1#32
  let v1064 : BitVec 32 := Scalar.muli v1059 c1_i32_1117
  let v1065 : BitVec 32 := Scalar.addi v1063 v1064
  v1065.toNat
def k0_off29 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1137 : BitVec 32 := 256#32
  let v1086 : BitVec 32 := Scalar.muli v38 c256_i32_1137
  let c128_i32_1138 : BitVec 32 := 128#32
  let v1087 : BitVec 32 := Scalar.addi v1086 c128_i32_1138
  let c640_i32_1148 : BitVec 32 := 640#32
  ![v1087.toNat, 640]
def k0_dev39 (d0 : Dev nD) : Nat :=
  let c0_i32_1145 : BitVec 32 := 0#32
  let c1_i32_1139 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1088 : BitVec 32 := Scalar.subi c1_i32_1139 v2
  let c4_i32_1144 : BitVec 32 := 4#32
  let v1089 : BitVec 32 := Scalar.muli v1088 c4_i32_1144
  let v1090 : BitVec 32 := Scalar.addi c0_i32_1145 v1089
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1146 : BitVec 32 := 2#32
  let v1091 : BitVec 32 := Scalar.muli v5 c2_i32_1146
  let v1092 : BitVec 32 := Scalar.addi v1090 v1091
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1147 : BitVec 32 := 1#32
  let v1093 : BitVec 32 := Scalar.muli v8 c1_i32_1147
  let v1094 : BitVec 32 := Scalar.addi v1092 v1093
  v1094.toNat
def k0_off30 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_1201 : BitVec 32 := 256#32
  let v1143 : BitVec 32 := Scalar.muli v35 c256_i32_1201
  let c768_i32_1211 : BitVec 32 := 768#32
  ![v1143.toNat, 768]
def k0_dev40 (d0 : Dev nD) : Nat :=
  let c0_i32_1208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1207 : BitVec 32 := 4#32
  let v1145 : BitVec 32 := Scalar.muli v2 c4_i32_1207
  let v1146 : BitVec 32 := Scalar.addi c0_i32_1208 v1145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1209 : BitVec 32 := 2#32
  let v1147 : BitVec 32 := Scalar.muli v5 c2_i32_1209
  let v1148 : BitVec 32 := Scalar.addi v1146 v1147
  let c1_i32_1202 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1144 : BitVec 32 := Scalar.subi c1_i32_1202 v8
  let c1_i32_1210 : BitVec 32 := 1#32
  let v1149 : BitVec 32 := Scalar.muli v1144 c1_i32_1210
  let v1150 : BitVec 32 := Scalar.addi v1148 v1149
  v1150.toNat
def k0_off31 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1230 : BitVec 32 := 256#32
  let v1171 : BitVec 32 := Scalar.muli v38 c256_i32_1230
  let c128_i32_1231 : BitVec 32 := 128#32
  let v1172 : BitVec 32 := Scalar.addi v1171 c128_i32_1231
  let c768_i32_1241 : BitVec 32 := 768#32
  ![v1172.toNat, 768]
def k0_dev41 (d0 : Dev nD) : Nat :=
  let c0_i32_1238 : BitVec 32 := 0#32
  let c1_i32_1232 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1173 : BitVec 32 := Scalar.subi c1_i32_1232 v2
  let c4_i32_1237 : BitVec 32 := 4#32
  let v1174 : BitVec 32 := Scalar.muli v1173 c4_i32_1237
  let v1175 : BitVec 32 := Scalar.addi c0_i32_1238 v1174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1239 : BitVec 32 := 2#32
  let v1176 : BitVec 32 := Scalar.muli v5 c2_i32_1239
  let v1177 : BitVec 32 := Scalar.addi v1175 v1176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1240 : BitVec 32 := 1#32
  let v1178 : BitVec 32 := Scalar.muli v8 c1_i32_1240
  let v1179 : BitVec 32 := Scalar.addi v1177 v1178
  v1179.toNat
def k0_off32 (d0 : Dev nD) : Fin 2 → Nat :=
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_1294 : BitVec 32 := 256#32
  let v1228 : BitVec 32 := Scalar.muli v35 c256_i32_1294
  let c896_i32_1304 : BitVec 32 := 896#32
  ![v1228.toNat, 896]
def k0_dev42 (d0 : Dev nD) : Nat :=
  let c0_i32_1301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1300 : BitVec 32 := 4#32
  let v1230 : BitVec 32 := Scalar.muli v2 c4_i32_1300
  let v1231 : BitVec 32 := Scalar.addi c0_i32_1301 v1230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1302 : BitVec 32 := 2#32
  let v1232 : BitVec 32 := Scalar.muli v5 c2_i32_1302
  let v1233 : BitVec 32 := Scalar.addi v1231 v1232
  let c1_i32_1295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1229 : BitVec 32 := Scalar.subi c1_i32_1295 v8
  let c1_i32_1303 : BitVec 32 := 1#32
  let v1234 : BitVec 32 := Scalar.muli v1229 c1_i32_1303
  let v1235 : BitVec 32 := Scalar.addi v1233 v1234
  v1235.toNat
def k0_off33 (d0 : Dev nD) : Fin 2 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1323 : BitVec 32 := 256#32
  let v1256 : BitVec 32 := Scalar.muli v38 c256_i32_1323
  let c128_i32_1324 : BitVec 32 := 128#32
  let v1257 : BitVec 32 := Scalar.addi v1256 c128_i32_1324
  let c896_i32_1334 : BitVec 32 := 896#32
  ![v1257.toNat, 896]
def k0_dev43 (d0 : Dev nD) : Nat :=
  let c0_i32_1331 : BitVec 32 := 0#32
  let c1_i32_1325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1258 : BitVec 32 := Scalar.subi c1_i32_1325 v2
  let c4_i32_1330 : BitVec 32 := 4#32
  let v1259 : BitVec 32 := Scalar.muli v1258 c4_i32_1330
  let v1260 : BitVec 32 := Scalar.addi c0_i32_1331 v1259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1332 : BitVec 32 := 2#32
  let v1261 : BitVec 32 := Scalar.muli v5 c2_i32_1332
  let v1262 : BitVec 32 := Scalar.addi v1260 v1261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1333 : BitVec 32 := 1#32
  let v1263 : BitVec 32 := Scalar.muli v8 c1_i32_1333
  let v1264 : BitVec 32 := Scalar.addi v1262 v1263
  v1264.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | .hbm, ⟨4, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/- The kernel's straight-line program cut into its stages. Each stage is one repeated step of the pipeline of
   exchanges, written once with the chunk number, the offsets and the target devices as parameters:
   * `stageA`: one product of a quarter of the columns, its two column chunks rounded and sent to the `y` neighbour;
   * `stageB`: one chunk's partner half arrives, the sum is stored and sent to the `x` and `z` neighbours;
   * `stageC`: the chunk from the `x` and from the `z` neighbour arrives, half of each is passed on;
   * `stageD`: the two passed-on halves arrive.
   `body_eq` states that the printed kernel body is the composition of these stages. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic Idealize.SL.Sem

variable {F : FTy → Type} [FloatOps F]

/-! ## The memrefs and semaphores, with their numbers as parameters -/

abbrev dyM : Memref sig .tc .hbm S1024x4096 .f32 := Memref.whole main_arg0
abbrev wM : Memref sig .tc .hbm S1024x4096 .f32 := Memref.whole main_arg1
abbrev outM : Memref sig .tc .vmem S1024x1024 .bf16 := Memref.whole cc0_stg0_0
abbrev dyf : Memref sig .tc .vmem S256x4096 .f32 := Memref.whole cc0_scratch0
abbrev dyb : Memref sig .tc .vmem S256x4096 .bf16 := Memref.whole cc0_scratch1
abbrev wf : Memref sig .tc .vmem S4x256x4096 .f32 := Memref.whole cc0_scratch2
abbrev bufsM : Memref sig .tc .vmem S2x8x256x128 .bf16 := Memref.whole cc0_scratch3

/-- A pair of a half of the exchange buffer and a chunk is in range. -/
theorem buf_inb (i : Fin 2) (j : Fin 8) :
    ∀ a, (![i.val, j.val, 0, 0] : Fin 4 → ℕ) a + S1x1x256x128.size a ≤ S2x8x256x128.size a := by
  intro a; fin_cases a
  · show i.val + 1 ≤ 2; omega
  · show j.val + 1 ≤ 8; omega
  · exact Nat.le_refl _
  · exact Nat.le_refl _

/-- A quarter of the columns of the weights is in range. -/
theorem wf_inb (g : Fin 4) :
    ∀ a, (![g.val, 0, 0] : Fin 3 → ℕ) a + S1x256x4096.size a ≤ S4x256x4096.size a := by
  intro a; fin_cases a
  · show g.val + 1 ≤ 4; omega
  · exact Nat.le_refl _
  · exact Nat.le_refl _

theorem wrow_inb (g : Fin 4) :
    ∀ a, (![256 * g.val, 0] : Fin 2 → ℕ) a + S256x4096.size a ≤ S1024x4096.size a := by
  intro a; fin_cases a
  · show 256 * g.val + 256 ≤ 1024; omega
  · exact Nat.le_refl _

theorem sem_inb (k : Fin 5) (j : Fin 8) :
    ∀ a, (![k.val, j.val] : Fin 2 → ℕ) a + S1x1.size a ≤ S5x8.size a := by
  intro a; fin_cases a
  · show k.val + 1 ≤ 5; omega
  · show j.val + 1 ≤ 8; omega

theorem wsem_inb (g : Fin 4) : ∀ a, (![g.val] : Fin 1 → ℕ) a + S1.size a ≤ S4.size a := by
  intro a; fin_cases a; show g.val + 1 ≤ 4; omega

theorem buf_packed (i : Fin 2) (j : Fin 8) :
    (Rect.unit (s := S2x8x256x128) ![i.val, j.val, 0, 0] S1x1x256x128.size (buf_inb i j)).PackedRows (EltTy.packing .bf16) :=
  .inr ⟨by decide, rfl, .inl ⟨⟨0, rfl⟩, ⟨128, rfl⟩⟩⟩

theorem buf_words (i : Fin 2) (j : Fin 8) :
    (Rect.unit (s := S2x8x256x128) ![i.val, j.val, 0, 0] S1x1x256x128.size (buf_inb i j)).WholeWords (EltTy.packing .bf16) :=
  (buf_packed i j).wholeWords

/-- The place of chunk `j` in half `i` of the exchange buffer (0: what is sent, 1: what is received). -/
abbrev bufRect (i : Fin 2) (j : Fin 8) : Rect S2x8x256x128 :=
  Rect.unit (s := S2x8x256x128) ![i.val, j.val, 0, 0] S1x1x256x128.size (buf_inb i j)
abbrev bufM (i : Fin 2) (j : Fin 8) : Memref sig .tc .vmem S256x128 .bf16 :=
  (bufsM.slice (bufRect i j) (fun _ => rfl)).squeeze S256x128 squeezes_S1x1x256x128_S256x128
theorem bufM_exact (i : Fin 2) (j : Fin 8) : (bufM i j).view.WordExact :=
  ((Memref.isWhole_whole cc0_scratch3).wordExact_slice rfl _ (buf_words i j)).reshape _ _

abbrev wfRect (g : Fin 4) : Rect S4x256x4096 := Rect.unit (s := S4x256x4096) ![g.val, 0, 0] S1x256x4096.size (wf_inb g)
abbrev wfM (g : Fin 4) : Memref sig .tc .vmem S256x4096 .f32 :=
  (wf.slice (wfRect g) (fun _ => rfl)).squeeze S256x4096 squeezes_S1x256x4096_S256x4096
abbrev wRows (g : Fin 4) : Memref sig .tc .hbm S256x4096 .f32 :=
  wM.slice (Rect.unit (s := S1024x4096) ![256 * g.val, 0] S256x4096.size (wrow_inb g)) (fun _ => rfl)
abbrev dyRows (c : Dev nD) : Memref sig .tc .hbm S256x4096 .f32 :=
  dyM.slice (Rect.unit (s := S1024x4096) (k0_off1 c) S256x4096.size (k0_off1_inb c)) (fun _ => rfl)

/-- A band of 256 rows and 128 columns of the result, and one of 128 rows. -/
abbrev Band : Type := {o : Fin 2 → ℕ // ∀ a, o a + S256x128.size a ≤ S1024x1024.size a}
abbrev HalfBand : Type := {o : Fin 2 → ℕ // ∀ a, o a + S128x128.size a ≤ S1024x1024.size a}
abbrev bandRect (o : Band) : Rect S1024x1024 := Rect.unit (s := S1024x1024) o.1 S256x128.size o.2
abbrev halfRect (o : HalfBand) : Rect S1024x1024 := Rect.unit (s := S1024x1024) o.1 S128x128.size o.2
abbrev bandM (o : Band) : Memref sig .tc .vmem S256x128 .bf16 := outM.slice (bandRect o) (fun _ => rfl)
abbrev halfM (o : HalfBand) : Memref sig .tc .vmem S128x128 .bf16 := outM.slice (halfRect o) (fun _ => rfl)

abbrev sndS (k : Fin 5) (j : Fin 8) : DmaSem sig :=
  ((cc0_scratch6.slice (Rect.unit (s := S5x8) ![k.val, j.val] S1x1.size (sem_inb k j))).squeeze S_ squeezes_S1x1_S_).sem
abbrev rcvS (k : Fin 5) (j : Fin 8) : DmaSem sig :=
  ((cc0_scratch7.slice (Rect.unit (s := S5x8) ![k.val, j.val] S1x1.size (sem_inb k j))).squeeze S_ squeezes_S1x1_S_).sem
abbrev wS (g : Fin 4) : DmaSem sig :=
  ((cc0_scratch5.slice (Rect.unit (s := S4) ![g.val] S1.size (wsem_inb g))).squeeze S_ squeezes_S1_S_).sem
abbrev dyS : DmaSem sig := cc0_scratch4.sem
abbrev barS : Sem sig := (SemArray.scalar (sig.barrier 0 rfl) : Sems sig S_).sem

/-! ## The steps -/

abbrev KProg (α : Type) : Type 1 := Prog (TpuEff nD τ sig (Elt F) Λ₀ .tc) α

/-- Send a band of the result to device `n`, to the same place, on the semaphores of kind `k` and chunk `j`. -/
def sendBand (o : Band) (hw : (bandRect o).WholeWords (EltTy.packing .bf16)) (n : Dev nD) (k : Fin 5) (j : Fin 8) :
    KProg (F := F) PUnit :=
  Prog.lift (.enqueueDma (bandM o) (.remote (Dev.tc n) (bandM o) (.dma (sndS k j))) (.dma (rcvS k j))
    ((Memref.isWhole_whole cc0_stg0_0).wordExact_slice rfl _ hw) ((Memref.isWhole_whole cc0_stg0_0).wordExact_slice rfl _ hw) ⟨⟨rfl, Or.inl rfl⟩, trivial⟩)

def sendHalf (o : HalfBand) (hw : (halfRect o).WholeWords (EltTy.packing .bf16)) (n : Dev nD) (k : Fin 5) (j : Fin 8) :
    KProg (F := F) PUnit :=
  Prog.lift (.enqueueDma (halfM o) (.remote (Dev.tc n) (halfM o) (.dma (sndS k j))) (.dma (rcvS k j))
    ((Memref.isWhole_whole cc0_stg0_0).wordExact_slice rfl _ hw) ((Memref.isWhole_whole cc0_stg0_0).wordExact_slice rfl _ hw) ⟨⟨rfl, Or.inl rfl⟩, trivial⟩)

def sendBuf (n : Dev nD) (j : Fin 8) : KProg (F := F) PUnit :=
  Prog.lift (.enqueueDma (bufM 0 j) (.remote (Dev.tc n) (bufM 1 j) (.dma (sndS 0 j)))
    (.dma (rcvS 0 j)) (bufM_exact _ j) (bufM_exact _ j) ⟨⟨rfl, Or.inl rfl⟩, trivial⟩)

def waitBand (s : DmaSem sig) (o : Band) (hw : (bandRect o).WholeWords (EltTy.packing .bf16)) : KProg (F := F) PUnit :=
  Prog.lift (.waitDma2 s (bandM o) (bandM o)
    ((Memref.isWhole_whole cc0_stg0_0).wordExact_slice rfl _ hw) ((Memref.isWhole_whole cc0_stg0_0).wordExact_slice rfl _ hw))

def waitHalf (s : DmaSem sig) (o : HalfBand) (hw : (halfRect o).WholeWords (EltTy.packing .bf16)) : KProg (F := F) PUnit :=
  Prog.lift (.waitDma2 s (halfM o) (halfM o)
    ((Memref.isWhole_whole cc0_stg0_0).wordExact_slice rfl _ hw) ((Memref.isWhole_whole cc0_stg0_0).wordExact_slice rfl _ hw))

/-- Load what the exchange buffer holds at chunk `j` of half `i`. -/
def loadBuf (i : Fin 2) (j : Fin 8) : KProg (F := F) (Vec F S1x1x256x128 .bf16) :=
  Prog.lift (.load bufsM (bufRect i j).toLoadRect (View.loadsAt_vmem h_S1x1x256x128))
def storeBuf (j : Fin 8) (v : FVec F S1x1x256x128 .bf16) : KProg (F := F) PUnit :=
  Prog.lift (.store bufsM (bufRect 0 j) v Finset.univ
    (View.stores_vmem h_S1x1x256x128 ((Memref.isWhole_whole cc0_scratch3).storeExact_slice rfl _ (buf_packed 0 j)) (fun _ => rfl)) (.inl rfl))

/-! ## The stages -/

abbrev fullRect : Rect S256x4096 := Rect.unit (s := S256x4096) ![0, 0] S256x4096.size inb_S256x4096_S256x4096_0_0

/-- The start: the local copies are begun, the three neighbours told this device is ready, and the same awaited of them;
    the rows of `dy` this device multiplies are rounded. -/
def stageStart (n1 n2 n3 : Dev nD) (c : Dev nD) : KProg (F := F) PUnit := do
  semSignalWord n1 barS 1#32
  semSignalWord n2 barS 1#32
  semSignalWord n3 barS 1#32
  Prog.lift (.enqueueDma (dyRows c) (.here dyf) (.dma dyS) (View.wordExact_bits rfl) (Memref.isWhole_whole cc0_scratch0).wordExact ⟨Or.inl rfl, trivial⟩)
  Prog.lift (.enqueueDma (wRows 0) (.here (wfM 0)) (.dma (wS 0)) (View.wordExact_bits rfl) ((View.wordExact_bits rfl).reshape _ _) ⟨Or.inl rfl, trivial⟩)
  Prog.lift (.enqueueDma (wRows 1) (.here (wfM 1)) (.dma (wS 1)) (View.wordExact_bits rfl) ((View.wordExact_bits rfl).reshape _ _) ⟨Or.inl rfl, trivial⟩)
  Prog.lift (.enqueueDma (wRows 2) (.here (wfM 2)) (.dma (wS 2)) (View.wordExact_bits rfl) ((View.wordExact_bits rfl).reshape _ _) ⟨Or.inl rfl, trivial⟩)
  Prog.lift (.enqueueDma (wRows 3) (.here (wfM 3)) (.dma (wS 3)) (View.wordExact_bits rfl) ((View.wordExact_bits rfl).reshape _ _) ⟨Or.inl rfl, trivial⟩)
  semWaitWord barS 3#32
  Prog.lift (.waitDma2 dyS (dyRows c) dyf (View.wordExact_bits rfl) (Memref.isWhole_whole cc0_scratch0).wordExact)
  let v : Vec F S256x4096 .f32 ← Prog.lift (.load dyf fullRect.toLoadRect (View.loadsAt_vmem h_S256x4096))
  let _ : Vec F S256x4096 .bf16 ← Prog.lift (.load dyb fullRect.toLoadRect (View.loadsAt_vmem h_S256x4096))
  Prog.lift (.store dyb fullRect (k0_pay1 v) Finset.univ (View.stores_vmem h_S256x4096 ((Memref.isWhole_whole cc0_scratch1).storeExact_slice rfl _ packedbf16_S256x4096_S256x4096_0_0) (fun _ => rfl)) (.inl rfl))

/-- One product and its two sends; it yields the two halves of the product. -/
def stageA (g : Fin 4) (j0 j1 : Fin 8) (n0 n1 : Dev nD) : KProg (F := F) (FVec F S256x128 .f32 × FVec F S256x128 .f32) := do
  Prog.lift (.waitDma2 (wS g) (wRows g) (wfM g) (View.wordExact_bits rfl) ((View.wordExact_bits rfl).reshape _ _))
  let w : Vec F S1x256x4096 .f32 ← Prog.lift (.load wf (wfRect g).toLoadRect (View.loadsAt_vmem h_S1x256x4096))
  let a : Vec F S256x4096 .bf16 ← Prog.lift (.load dyb fullRect.toLoadRect (View.loadsAt_vmem h_S256x4096))
  let _ ← loadBuf 0 j0
  storeBuf j0 (k0_pay4 w a)
  sendBuf n0 j0
  let _ ← loadBuf 0 j1
  storeBuf j1 (k0_pay6 (k0_pay2 w a))
  sendBuf n1 j1
  pure (k0_pay3 w a, k0_pay5 (k0_pay2 w a))

/-- Chunk `j` from the `y` neighbour arrives; the sum with the own half `p` is stored and sent on. -/
def stageB (j : Fin 8) (p : FVec F S256x128 .f32) (o : Band) (hp : (bandRect o).PackedRows (EltTy.packing .bf16))
    (o' : Band) (hw : (bandRect o').WholeWords (EltTy.packing .bf16)) (nx nz : Dev nD) : KProg (F := F) PUnit := do
  Prog.lift (.waitDma2 (sndS 0 j) (bufM 1 j) (bufM 0 j) (bufM_exact _ j) (bufM_exact _ j))
  Prog.lift (.waitDma2 (rcvS 0 j) (bufM 0 j) (bufM 1 j) (bufM_exact _ j) (bufM_exact _ j))
  let v ← loadBuf 1 j
  let _ : Vec F S256x128 .bf16 ← Prog.lift (.load outM (bandRect o).toLoadRect (View.loadsAt_vmem h_S256x128))
  Prog.lift (.store outM (bandRect o) (k0_pay17 p v) Finset.univ (View.stores_vmem h_S256x128 ((Memref.isWhole_whole cc0_stg0_0).storeExact_slice rfl _ hp) (fun _ => rfl)) (.inl rfl))
  sendBand o' hw nx 1 j
  sendBand o' hw nz 2 j

/-- Chunk `j` from the `x` neighbour arrives and half of it goes to the `z` neighbour; the same with the two exchanged. -/
def stageC (j : Fin 8) (o : Band) (hw : (bandRect o).WholeWords (EltTy.packing .bf16))
    (oz : HalfBand) (hz : (halfRect oz).WholeWords (EltTy.packing .bf16)) (ox : HalfBand) (hx : (halfRect ox).WholeWords (EltTy.packing .bf16))
    (nz nx : Dev nD) : KProg (F := F) PUnit := do
  waitBand (sndS 1 j) o hw
  waitBand (rcvS 1 j) o hw
  sendHalf oz hz nz 3 j
  waitBand (sndS 2 j) o hw
  waitBand (rcvS 2 j) o hw
  sendHalf ox hx nx 4 j

/-- The two passed-on halves of chunk `j` arrive. -/
def stageD (j : Fin 8) (oz : HalfBand) (hz : (halfRect oz).WholeWords (EltTy.packing .bf16))
    (ox : HalfBand) (hx : (halfRect ox).WholeWords (EltTy.packing .bf16)) : KProg (F := F) PUnit := do
  waitHalf (sndS 3 j) oz hz
  waitHalf (rcvS 3 j) oz hz
  waitHalf (sndS 4 j) ox hx
  waitHalf (rcvS 4 j) ox hx

/-- The stages in the order the kernel runs them, on device `c`. -/
def stages (c : Dev nD) : KProg (F := F) PUnit := do
  stageStart ⟨k0_dev1 c, k0_dev1_lt c⟩ ⟨k0_dev2 c, k0_dev2_lt c⟩ ⟨k0_dev3 c, k0_dev3_lt c⟩ c
  let p0 ← stageA 0 0 1 ⟨k0_dev4 c, k0_dev4_lt c⟩ ⟨k0_dev5 c, k0_dev5_lt c⟩
  let p1 ← stageA 1 2 3 ⟨k0_dev6 c, k0_dev6_lt c⟩ ⟨k0_dev7 c, k0_dev7_lt c⟩
  let p2 ← stageA 2 4 5 ⟨k0_dev8 c, k0_dev8_lt c⟩ ⟨k0_dev9 c, k0_dev9_lt c⟩
  stageB 0 p0.1 ⟨k0_off2 c, k0_off2_inb c⟩ (k0_off2_packedbf16 c) ⟨k0_off3 c, k0_off3_inb c⟩ (k0_off3_wordsbf16 c) ⟨k0_dev10 c, k0_dev10_lt c⟩ ⟨k0_dev11 c, k0_dev11_lt c⟩
  stageB 1 p0.2 ⟨k0_off4 c, k0_off4_inb c⟩ (k0_off4_packedbf16 c) ⟨k0_off5 c, k0_off5_inb c⟩ (k0_off5_wordsbf16 c) ⟨k0_dev12 c, k0_dev12_lt c⟩ ⟨k0_dev13 c, k0_dev13_lt c⟩
  let p3 ← stageA 3 6 7 ⟨k0_dev14 c, k0_dev14_lt c⟩ ⟨k0_dev15 c, k0_dev15_lt c⟩
  stageB 2 p1.1 ⟨k0_off6 c, k0_off6_inb c⟩ (k0_off6_packedbf16 c) ⟨k0_off7 c, k0_off7_inb c⟩ (k0_off7_wordsbf16 c) ⟨k0_dev16 c, k0_dev16_lt c⟩ ⟨k0_dev17 c, k0_dev17_lt c⟩
  stageC 0 ⟨k0_off3 c, k0_off3_inb c⟩ (k0_off3_wordsbf16 c) ⟨k0_off8 c, k0_off8_inb c⟩ (k0_off8_wordsbf16 c) ⟨k0_off9 c, k0_off9_inb c⟩ (k0_off9_wordsbf16 c) ⟨k0_dev18 c, k0_dev18_lt c⟩ ⟨k0_dev19 c, k0_dev19_lt c⟩
  stageB 3 p1.2 ⟨k0_off10 c, k0_off10_inb c⟩ (k0_off10_packedbf16 c) ⟨k0_off11 c, k0_off11_inb c⟩ (k0_off11_wordsbf16 c) ⟨k0_dev20 c, k0_dev20_lt c⟩ ⟨k0_dev21 c, k0_dev21_lt c⟩
  stageC 1 ⟨k0_off5 c, k0_off5_inb c⟩ (k0_off5_wordsbf16 c) ⟨k0_off12 c, k0_off12_inb c⟩ (k0_off12_wordsbf16 c) ⟨k0_off13 c, k0_off13_inb c⟩ (k0_off13_wordsbf16 c) ⟨k0_dev22 c, k0_dev22_lt c⟩ ⟨k0_dev23 c, k0_dev23_lt c⟩
  stageB 4 p2.1 ⟨k0_off14 c, k0_off14_inb c⟩ (k0_off14_packedbf16 c) ⟨k0_off15 c, k0_off15_inb c⟩ (k0_off15_wordsbf16 c) ⟨k0_dev24 c, k0_dev24_lt c⟩ ⟨k0_dev25 c, k0_dev25_lt c⟩
  stageC 2 ⟨k0_off7 c, k0_off7_inb c⟩ (k0_off7_wordsbf16 c) ⟨k0_off16 c, k0_off16_inb c⟩ (k0_off16_wordsbf16 c) ⟨k0_off17 c, k0_off17_inb c⟩ (k0_off17_wordsbf16 c) ⟨k0_dev26 c, k0_dev26_lt c⟩ ⟨k0_dev27 c, k0_dev27_lt c⟩
  stageD 0 ⟨k0_off8 c, k0_off8_inb c⟩ (k0_off8_wordsbf16 c) ⟨k0_off9 c, k0_off9_inb c⟩ (k0_off9_wordsbf16 c)
  stageB 5 p2.2 ⟨k0_off18 c, k0_off18_inb c⟩ (k0_off18_packedbf16 c) ⟨k0_off19 c, k0_off19_inb c⟩ (k0_off19_wordsbf16 c) ⟨k0_dev28 c, k0_dev28_lt c⟩ ⟨k0_dev29 c, k0_dev29_lt c⟩
  stageC 3 ⟨k0_off11 c, k0_off11_inb c⟩ (k0_off11_wordsbf16 c) ⟨k0_off20 c, k0_off20_inb c⟩ (k0_off20_wordsbf16 c) ⟨k0_off21 c, k0_off21_inb c⟩ (k0_off21_wordsbf16 c) ⟨k0_dev30 c, k0_dev30_lt c⟩ ⟨k0_dev31 c, k0_dev31_lt c⟩
  stageD 1 ⟨k0_off12 c, k0_off12_inb c⟩ (k0_off12_wordsbf16 c) ⟨k0_off13 c, k0_off13_inb c⟩ (k0_off13_wordsbf16 c)
  stageB 6 p3.1 ⟨k0_off22 c, k0_off22_inb c⟩ (k0_off22_packedbf16 c) ⟨k0_off23 c, k0_off23_inb c⟩ (k0_off23_wordsbf16 c) ⟨k0_dev32 c, k0_dev32_lt c⟩ ⟨k0_dev33 c, k0_dev33_lt c⟩
  stageC 4 ⟨k0_off15 c, k0_off15_inb c⟩ (k0_off15_wordsbf16 c) ⟨k0_off24 c, k0_off24_inb c⟩ (k0_off24_wordsbf16 c) ⟨k0_off25 c, k0_off25_inb c⟩ (k0_off25_wordsbf16 c) ⟨k0_dev34 c, k0_dev34_lt c⟩ ⟨k0_dev35 c, k0_dev35_lt c⟩
  stageD 2 ⟨k0_off16 c, k0_off16_inb c⟩ (k0_off16_wordsbf16 c) ⟨k0_off17 c, k0_off17_inb c⟩ (k0_off17_wordsbf16 c)
  stageB 7 p3.2 ⟨k0_off26 c, k0_off26_inb c⟩ (k0_off26_packedbf16 c) ⟨k0_off27 c, k0_off27_inb c⟩ (k0_off27_wordsbf16 c) ⟨k0_dev36 c, k0_dev36_lt c⟩ ⟨k0_dev37 c, k0_dev37_lt c⟩
  stageC 5 ⟨k0_off19 c, k0_off19_inb c⟩ (k0_off19_wordsbf16 c) ⟨k0_off28 c, k0_off28_inb c⟩ (k0_off28_wordsbf16 c) ⟨k0_off29 c, k0_off29_inb c⟩ (k0_off29_wordsbf16 c) ⟨k0_dev38 c, k0_dev38_lt c⟩ ⟨k0_dev39 c, k0_dev39_lt c⟩
  stageD 3 ⟨k0_off20 c, k0_off20_inb c⟩ (k0_off20_wordsbf16 c) ⟨k0_off21 c, k0_off21_inb c⟩ (k0_off21_wordsbf16 c)
  stageC 6 ⟨k0_off23 c, k0_off23_inb c⟩ (k0_off23_wordsbf16 c) ⟨k0_off30 c, k0_off30_inb c⟩ (k0_off30_wordsbf16 c) ⟨k0_off31 c, k0_off31_inb c⟩ (k0_off31_wordsbf16 c) ⟨k0_dev40 c, k0_dev40_lt c⟩ ⟨k0_dev41 c, k0_dev41_lt c⟩
  stageD 4 ⟨k0_off24 c, k0_off24_inb c⟩ (k0_off24_wordsbf16 c) ⟨k0_off25 c, k0_off25_inb c⟩ (k0_off25_wordsbf16 c)
  stageC 7 ⟨k0_off27 c, k0_off27_inb c⟩ (k0_off27_wordsbf16 c) ⟨k0_off32 c, k0_off32_inb c⟩ (k0_off32_wordsbf16 c) ⟨k0_off33 c, k0_off33_inb c⟩ (k0_off33_wordsbf16 c) ⟨k0_dev42 c, k0_dev42_lt c⟩ ⟨k0_dev43 c, k0_dev43_lt c⟩
  stageD 5 ⟨k0_off28 c, k0_off28_inb c⟩ (k0_off28_wordsbf16 c) ⟨k0_off29 c, k0_off29_inb c⟩ (k0_off29_wordsbf16 c)
  stageD 6 ⟨k0_off30 c, k0_off30_inb c⟩ (k0_off30_wordsbf16 c) ⟨k0_off31 c, k0_off31_inb c⟩ (k0_off31_wordsbf16 c)
  stageD 7 ⟨k0_off32 c, k0_off32_inb c⟩ (k0_off32_wordsbf16 c) ⟨k0_off33 c, k0_off33_inb c⟩ (k0_off33_wordsbf16 c)

/-- The kernel body as the pipeline calls it. -/
abbrev bodyAt : KProg (F := F) PUnit :=
  cc0_body (Memref.whole main_arg0) (Memref.isWhole_whole _) (Memref.whole main_arg1) (Memref.isWhole_whole _) (Memref.whole cc0_stg0_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

set_option maxRecDepth 65536 in
set_option maxHeartbeats 4000000 in
/-- The printed body reads its device number and runs the stages. -/
theorem body_eq : bodyAt (F := F) = (Prog.lift .deviceId >>= fun c => stages (F := F) c) := by
  chain_rfl

end Cert.KernelProof

end
-- ==== Proof.Mesh.lean ====
/- The mesh of eight devices, the places of the buffers the kernel exchanges, and what each buffer holds when its
   exchange is over. Device `c` has coordinates `(c / 4, c / 2 % 2, c % 2)`, and `px`, `py`, `pz` flip one of them. -/
module

public import proofs.«01_k».proof.Proof.Program
public import Idealize.ShloMosaic.Lib.Pipeline.ValueKit.Geometry

@[expose] public section

noncomputable section

namespace Cert.KernelProof

open Cert.KernelIdeal Cert.KernelIdeal.Gen
open Idealize.ShloMosaic Idealize.ShloMosaic.TcCoe Idealize.SL.Sem

variable {F : FTy → Type} [FloatOps F]

/-! ## Devices -/

theorem dev_lt (c : Dev nD) : c.val < 8 := c.isLt

/-- The neighbour along the first mesh axis. -/
def px (c : Dev nD) : Dev nD :=
  ⟨(2 * ((c.val / 2) % 2) + (c.val % 2) + 4) - 4 * (c.val / 4), by have := dev_lt c; show _ < 8; omega⟩
/-- The neighbour along the second mesh axis. -/
def py (c : Dev nD) : Dev nD :=
  ⟨(4 * (c.val / 4) + (c.val % 2) + 2) - 2 * ((c.val / 2) % 2), by have := dev_lt c; show _ < 8; omega⟩
/-- The neighbour along the third mesh axis. -/
def pz (c : Dev nD) : Dev nD :=
  ⟨(4 * (c.val / 4) + 2 * ((c.val / 2) % 2) + 1) - (c.val % 2), by have := dev_lt c; show _ < 8; omega⟩

theorem px_val (c : Dev nD) : (px c).val = (2 * ((c.val / 2) % 2) + (c.val % 2) + 4) - 4 * (c.val / 4) := rfl
theorem py_val (c : Dev nD) : (py c).val = (4 * (c.val / 4) + (c.val % 2) + 2) - 2 * ((c.val / 2) % 2) := rfl
theorem pz_val (c : Dev nD) : (pz c).val = (4 * (c.val / 4) + 2 * ((c.val / 2) % 2) + 1) - (c.val % 2) := rfl

/-- The five kinds of exchange: the half product to the `y` neighbour, the own block to the `x` and to the `z`
    neighbour, and the two passed-on halves (to the `z` and to the `x` neighbour). The device kind `k` sends to. -/
def peer (k : Fin 5) (c : Dev nD) : Dev nD :=
  match k with
  | 0 => py c
  | 1 => px c
  | 2 => pz c
  | 3 => pz c
  | 4 => px c

theorem px_px (c : Dev nD) : px (px c) = c := by revert c; decide
theorem py_py (c : Dev nD) : py (py c) = c := by revert c; decide
theorem pz_pz (c : Dev nD) : pz (pz c) = c := by revert c; decide
theorem px_pz (c : Dev nD) : px (pz c) = pz (px c) := by revert c; decide
theorem peer_peer (k : Fin 5) (c : Dev nD) : peer k (peer k c) = c := by revert k c; decide

/-- The device that computes block `b` of the rows, among those that share the second coordinate of `c`. -/
def src (c : Dev nD) (b : ℕ) : Dev nD :=
  ⟨(4 * (b / 2 % 2) + 2 * ((c.val / 2) % 2)) + b % 2, by show _ < 8; omega⟩

theorem src_px (c : Dev nD) (b : ℕ) : src (px c) b = src c b := by
  apply Fin.ext; have := dev_lt c; simp only [src, px]; omega
theorem src_pz (c : Dev nD) (b : ℕ) : src (pz c) b = src c b := by
  apply Fin.ext; have := dev_lt c; simp only [src, pz]; omega
theorem src_own (c : Dev nD) (b : ℕ) (h : b = 2 * (c.val / 4) + c.val % 2) : src c b = c := by
  apply Fin.ext; have := dev_lt c; simp only [src]; omega

/-! ## Bands of the result -/

/-- The rows of the result device `c` computes, at the columns of chunk `j`. -/
def ownBand (c : Dev nD) (j : Fin 8) : Band :=
  ⟨![512 * (c.val / 4) + 256 * (c.val % 2), 128 * j.val], fun a => by
    have := dev_lt c; have := j.isLt
    fin_cases a
    · show 512 * (c.val / 4) + 256 * (c.val % 2) + 256 ≤ 1024; omega
    · show 128 * j.val + 128 ≤ 1024; omega⟩
/-- The upper half of the block of the `x` neighbour, which is passed on to the `z` neighbour. -/
def dzHalf (c : Dev nD) (j : Fin 8) : HalfBand :=
  ⟨![(256 * (c.val % 2) + 512) - 512 * (c.val / 4), 128 * j.val], fun a => by
    have := dev_lt c; have := j.isLt
    fin_cases a
    · show (256 * (c.val % 2) + 512) - 512 * (c.val / 4) + 128 ≤ 1024; omega
    · show 128 * j.val + 128 ≤ 1024; omega⟩
/-- The lower half of the block of the `z` neighbour, which is passed on to the `x` neighbour. -/
def dxHalf (c : Dev nD) (j : Fin 8) : HalfBand :=
  ⟨![(512 * (c.val / 4) + 384) - 256 * (c.val % 2), 128 * j.val], fun a => by
    have := dev_lt c; have := j.isLt
    fin_cases a
    · show (512 * (c.val / 4) + 384) - 256 * (c.val % 2) + 128 ≤ 1024; omega
    · show 128 * j.val + 128 ≤ 1024; omega⟩

/-- The elements of a band. -/
abbrev bandSet (o : Band) : Finset S1024x1024.Idx := (bandM o).view.set
abbrev halfSet (o : HalfBand) : Finset S1024x1024.Idx := (halfM o).view.set

theorem mem_bandSet (o : Band) (i : S1024x1024.Idx) :
    i ∈ bandSet o ↔ (o.1 0 ≤ (i 0).val ∧ (i 0).val < o.1 0 + 256) ∧ (o.1 1 ≤ (i 1).val ∧ (i 1).val < o.1 1 + 128) := by
  refine ValueKit.mem_set_slice_whole_iff cc0_stg0_0 (bandRect o) i ?_
  refine Rect.mem_set_unit.trans ⟨fun h => ⟨h 0, h 1⟩, fun h a => ?_⟩
  fin_cases a
  · exact h.1
  · exact h.2

theorem mem_halfSet (o : HalfBand) (i : S1024x1024.Idx) :
    i ∈ halfSet o ↔ (o.1 0 ≤ (i 0).val ∧ (i 0).val < o.1 0 + 128) ∧ (o.1 1 ≤ (i 1).val ∧ (i 1).val < o.1 1 + 128) := by
  refine ValueKit.mem_set_slice_whole_iff cc0_stg0_0 (halfRect o) i ?_
  refine Rect.mem_set_unit.trans ⟨fun h => ⟨h 0, h 1⟩, fun h a => ?_⟩
  fin_cases a
  · exact h.1
  · exact h.2

theorem mem_own (c : Dev nD) (j : Fin 8) (i : S1024x1024.Idx) :
    i ∈ bandSet (ownBand c j) ↔ (i 0).val / 256 = 2 * (c.val / 4) + c.val % 2 ∧ (i 1).val / 128 = j.val := by
  rw [mem_bandSet]
  show (512 * (c.val / 4) + 256 * (c.val % 2) ≤ (i 0).val ∧ (i 0).val < 512 * (c.val / 4) + 256 * (c.val % 2) + 256)
    ∧ (128 * j.val ≤ (i 1).val ∧ (i 1).val < 128 * j.val + 128) ↔ _
  omega
theorem mem_dz (c : Dev nD) (j : Fin 8) (i : S1024x1024.Idx) :
    i ∈ halfSet (dzHalf c j) ↔ (i 0).val / 128 = 4 * (1 - c.val / 4) + 2 * (c.val % 2) ∧ (i 1).val / 128 = j.val := by
  rw [mem_halfSet]
  show ((256 * (c.val % 2) + 512) - 512 * (c.val / 4) ≤ (i 0).val ∧ (i 0).val < (256 * (c.val % 2) + 512) - 512 * (c.val / 4) + 128)
    ∧ (128 * j.val ≤ (i 1).val ∧ (i 1).val < 128 * j.val + 128) ↔ _
  have := dev_lt c
  omega
theorem mem_dx (c : Dev nD) (j : Fin 8) (i : S1024x1024.Idx) :
    i ∈ halfSet (dxHalf c j) ↔ (i 0).val / 128 = 4 * (c.val / 4) + 2 * (1 - c.val % 2) + 1 ∧ (i 1).val / 128 = j.val := by
  rw [mem_halfSet]
  show ((512 * (c.val / 4) + 384) - 256 * (c.val % 2) ≤ (i 0).val ∧ (i 0).val < (512 * (c.val / 4) + 384) - 256 * (c.val % 2) + 128)
    ∧ (128 * j.val ≤ (i 1).val ∧ (i 1).val < 128 * j.val + 128) ↔ _
  have := dev_lt c
  omega

/-- The block of the `x` neighbour is its upper half, passed on, and its lower half. -/
theorem own_px (c : Dev nD) (j : Fin 8) :
    bandSet (ownBand (px c) j) = halfSet (dzHalf c j) ∪ halfSet (dxHalf (pz (px c)) j) := by
  ext i
  rw [Finset.mem_union, mem_own, mem_dz, mem_dx, px_val, pz_val, px_val]
  have := dev_lt c
  omega
theorem own_px_disjoint (c : Dev nD) (j : Fin 8) :
    Disjoint (halfSet (dzHalf c j)) (halfSet (dxHalf (pz (px c)) j)) := by
  rw [Finset.disjoint_left]; intro i h h'
  rw [mem_dz] at h; rw [mem_dx, pz_val, px_val] at h'
  have := dev_lt c
  omega
/-- The block of the `z` neighbour is its lower half, passed on, and its upper half. -/
theorem own_pz (c : Dev nD) (j : Fin 8) :
    bandSet (ownBand (pz c) j) = halfSet (dxHalf c j) ∪ halfSet (dzHalf (pz (px c)) j) := by
  ext i
  rw [Finset.mem_union, mem_own, mem_dz, mem_dx, pz_val, pz_val, px_val]
  have := dev_lt c
  omega
theorem own_pz_disjoint (c : Dev nD) (j : Fin 8) :
    Disjoint (halfSet (dxHalf c j)) (halfSet (dzHalf (pz (px c)) j)) := by
  rw [Finset.disjoint_left]; intro i h h'
  rw [mem_dx] at h; rw [mem_dz, pz_val, px_val] at h'
  have := dev_lt c
  omega

/-- The five pieces of the columns of chunk `j`, as device `c` gives them away or keeps them. -/
def chunkSet (c : Dev nD) (j : Fin 8) : Finset S1024x1024.Idx :=
  bandSet (ownBand c j) ∪ (bandSet (ownBand (px c) j) ∪ (bandSet (ownBand (pz c) j) ∪ (halfSet (dzHalf (pz c) j) ∪ halfSet (dxHalf (px c) j))))

theorem mem_chunkSet (c : Dev nD) (j : Fin 8) (i : S1024x1024.Idx) : i ∈ chunkSet c j ↔ (i 1).val / 128 = j.val := by
  unfold chunkSet
  rw [Finset.mem_union, Finset.mem_union, Finset.mem_union, Finset.mem_union, mem_own, mem_own, mem_own, mem_dz, mem_dx, px_val, pz_val]
  have := dev_lt c
  have h0 : (i 0).val < 1024 := (i 0).isLt
  omega

theorem chunk_disjoint₁ (c : Dev nD) (j : Fin 8) :
    Disjoint (bandSet (ownBand c j))
      (bandSet (ownBand (px c) j) ∪ (bandSet (ownBand (pz c) j) ∪ (halfSet (dzHalf (pz c) j) ∪ halfSet (dxHalf (px c) j)))) := by
  rw [Finset.disjoint_left]; intro i h h'
  rw [Finset.mem_union, Finset.mem_union, Finset.mem_union, mem_own, mem_own, mem_dz, mem_dx, px_val, pz_val] at h'
  rw [mem_own] at h
  have := dev_lt c
  omega
theorem chunk_disjoint₂ (c : Dev nD) (j : Fin 8) :
    Disjoint (bandSet (ownBand (px c) j)) (bandSet (ownBand (pz c) j) ∪ (halfSet (dzHalf (pz c) j) ∪ halfSet (dxHalf (px c) j))) := by
  rw [Finset.disjoint_left]; intro i h h'
  rw [Finset.mem_union, Finset.mem_union, mem_own, mem_dz, mem_dx, px_val, pz_val] at h'
  rw [mem_own, px_val] at h
  have := dev_lt c
  omega
theorem chunk_disjoint₃ (c : Dev nD) (j : Fin 8) :
    Disjoint (bandSet (ownBand (pz c) j)) (halfSet (dzHalf (pz c) j) ∪ halfSet (dxHalf (px c) j)) := by
  rw [Finset.disjoint_left]; intro i h h'
  rw [Finset.mem_union, mem_dz, mem_dx, px_val, pz_val] at h'
  rw [mem_own, pz_val] at h
  have := dev_lt c
  omega
theorem chunk_disjoint₄ (c : Dev nD) (j : Fin 8) :
    Disjoint (halfSet (dzHalf (pz c) j)) (halfSet (dxHalf (px c) j)) := by
  rw [Finset.disjoint_left]; intro i h h'
  rw [mem_dz, pz_val] at h; rw [mem_dx, px_val] at h'
  have := dev_lt c
  omega

theorem chunks_disjoint (c : Dev nD) (j j' : Fin 8) (h : j ≠ j') : Disjoint (chunkSet c j) (chunkSet c j') := by
  rw [Finset.disjoint_left]; intro i hi hi'
  rw [mem_chunkSet] at hi hi'
  exact h (Fin.ext (hi.symm.trans hi'))
theorem chunks_cover (c : Dev nD) : Finset.univ.biUnion (chunkSet c) = Finset.univ := by
  ext i
  simp only [Finset.mem_biUnion, Finset.mem_univ, true_and, iff_true]
  have h1 : (i 1).val < 1024 := (i 1).isLt
  exact ⟨⟨(i 1).val / 128, by omega⟩, (mem_chunkSet c _ i).mpr rfl⟩

/-! ## Pieces of the other buffers -/

abbrev bufSet (i : Fin 2) (j : Fin 8) : Finset S2x8x256x128.Idx := (bufM i j).view.set

theorem mem_bufSet (i : Fin 2) (j : Fin 8) (x : S2x8x256x128.Idx) : x ∈ bufSet i j ↔ (x 0).val = i.val ∧ (x 1).val = j.val := by
  have hs : (bufM i j).view.set = ((View.whole cc0_scratch3).slice (bufRect i j)).set := View.set_reshape _ _
  refine (iff_of_eq (congrArg (fun S : Finset S2x8x256x128.Idx => x ∈ S) hs)).trans ?_
  refine ValueKit.mem_set_slice_whole_iff cc0_scratch3 (bufRect i j) x ?_
  refine Rect.mem_set_unit.trans ⟨fun h => ⟨?_, ?_⟩, fun h a => ?_⟩
  · have h0 : i.val ≤ (x 0).val ∧ (x 0).val < i.val + 1 := h 0
    omega
  · have h0 : j.val ≤ (x 1).val ∧ (x 1).val < j.val + 1 := h 1
    omega
  · fin_cases a
    · show i.val ≤ (x 0).val ∧ (x 0).val < i.val + 1; omega
    · show j.val ≤ (x 1).val ∧ (x 1).val < j.val + 1; omega
    · exact ⟨Nat.zero_le _, lt_of_lt_of_eq (x 2).isLt (Nat.zero_add _).symm⟩
    · exact ⟨Nat.zero_le _, lt_of_lt_of_eq (x 3).isLt (Nat.zero_add _).symm⟩

theorem bufs_disjoint (p p' : Fin 2 × Fin 8) (h : p ≠ p') : Disjoint (bufSet p.1 p.2) (bufSet p'.1 p'.2) := by
  rw [Finset.disjoint_left]; intro x hx hx'
  rw [mem_bufSet] at hx hx'
  exact h (Prod.ext (Fin.ext (hx.1.symm.trans hx'.1)) (Fin.ext (hx.2.symm.trans hx'.2)))
theorem bufs_cover : Finset.univ.biUnion (fun p : Fin 2 × Fin 8 => bufSet p.1 p.2) = Finset.univ := by
  ext x
  simp only [Finset.mem_biUnion, Finset.mem_univ, true_and, iff_true]
  exact ⟨(x 0, x 1), (mem_bufSet _ _ x).mpr ⟨rfl, rfl⟩⟩

abbrev wfSet (g : Fin 4) : Finset S4x256x4096.Idx := (wfM g).view.set

theorem mem_wfSet (g : Fin 4) (x : S4x256x4096.Idx) : x ∈ wfSet g ↔ (x 0).val = g.val := by
  have hs : (wfM g).view.set = ((View.whole cc0_scratch2).slice (wfRect g)).set := View.set_reshape _ _
  refine (iff_of_eq (congrArg (fun S : Finset S4x256x4096.Idx => x ∈ S) hs)).trans ?_
  refine ValueKit.mem_set_slice_whole_iff cc0_scratch2 (wfRect g) x ?_
  refine Rect.mem_set_unit.trans ⟨fun h => ?_, fun h a => ?_⟩
  · have h0 : g.val ≤ (x 0).val ∧ (x 0).val < g.val + 1 := h 0
    omega
  · fin_cases a
    · show g.val ≤ (x 0).val ∧ (x 0).val < g.val + 1; omega
    · exact ⟨Nat.zero_le _, lt_of_lt_of_eq (x 1).isLt (Nat.zero_add _).symm⟩
    · exact ⟨Nat.zero_le _, lt_of_lt_of_eq (x 2).isLt (Nat.zero_add _).symm⟩
theorem wfs_disjoint (g g' : Fin 4) (h : g ≠ g') : Disjoint (wfSet g) (wfSet g') := by
  rw [Finset.disjoint_left]; intro x hx hx'
  rw [mem_wfSet] at hx hx'
  exact h (Fin.ext (hx.symm.trans hx'))
theorem wfs_cover : Finset.univ.biUnion wfSet = Finset.univ := by
  ext x
  simp only [Finset.mem_biUnion, Finset.mem_univ, true_and, iff_true]
  exact ⟨x 0, (mem_wfSet _ x).mpr rfl⟩

abbrev wRowSet (g : Fin 4) : Finset S1024x4096.Idx := (wRows g).view.set

theorem mem_wRowSet (g : Fin 4) (x : S1024x4096.Idx) : x ∈ wRowSet g ↔ (x 0).val / 256 = g.val := by
  refine ValueKit.mem_set_slice_whole_iff main_arg1 (Rect.unit (s := S1024x4096) ![256 * g.val, 0] S256x4096.size (wrow_inb g)) x ?_
  refine Rect.mem_set_unit.trans ⟨fun h => ?_, fun h a => ?_⟩
  · have h0 : 256 * g.val ≤ (x 0).val ∧ (x 0).val < 256 * g.val + 256 := h 0
    omega
  · fin_cases a
    · show 256 * g.val ≤ (x 0).val ∧ (x 0).val < 256 * g.val + 256; omega
    · exact ⟨Nat.zero_le _, lt_of_lt_of_eq (x 1).isLt (Nat.zero_add _).symm⟩
theorem wRows_disjoint (g g' : Fin 4) (h : g ≠ g') : Disjoint (wRowSet g) (wRowSet g') := by
  rw [Finset.disjoint_left]; intro x hx hx'
  rw [mem_wRowSet] at hx hx'
  exact h (Fin.ext (hx.symm.trans hx'))
theorem wRows_cover : Finset.univ.biUnion wRowSet = Finset.univ := by
  ext x
  simp only [Finset.mem_biUnion, Finset.mem_univ, true_and, iff_true]
  have h0 : (x 0).val < 1024 := (x 0).isLt
  exact ⟨⟨(x 0).val / 256, by omega⟩, (mem_wRowSet _ x).mpr rfl⟩

/-! ## Contents -/

variable (m : (ℓ : Loc nD τ sig) → Buf (Elt F) ℓ)

/-- The two arguments' blocks on a device. -/
def dyArg (c : Dev nD) : Vec F S1024x4096 .f32 := m ((c : Thread nD τ).loc main_arg0)
def wArg (c : Dev nD) : Vec F S1024x4096 .f32 := m ((c : Thread nD τ).loc main_arg1)

/-- The rows of `dy` device `c` multiplies, and the same rounded. -/
def DY (c : Dev nD) : Vec F S256x4096 .f32 := (dyRows c).view.read (Elt F) (dyArg m c)
def DYB (c : Dev nD) : FVec F S256x4096 .bf16 := k0_pay1 (DY m c)

/-- The weights as the scratch holds them, in quarters. -/
def WF (c : Dev nD) : Vec F S4x256x4096 .f32 := fun x =>
  wArg m c (Shape.pair (d := ![1024, 4096]) ⟨256 * (x 0).val + (x 1).val, by
    have h0 : (x 0).val < 4 := (x 0).isLt
    have h1 : (x 1).val < 256 := (x 1).isLt
    show _ < 1024; omega⟩ (x 2))
def WQ (c : Dev nD) (g : Fin 4) : Vec F S1x256x4096 .f32 := wf.view.readAt (Elt F) (wfRect g).toLoadRect (WF m c)

/-- The quarter of the columns chunk `j` lies in. -/
def quarter (j : Fin 8) : Fin 4 := ⟨j.val / 2, by have := j.isLt; omega⟩

/-- Device `c`'s half of the sum at chunk `j`. -/
def P (c : Dev nD) (j : Fin 8) : FVec F S256x128 .f32 :=
  if j.val % 2 = 0 then k0_pay3 (WQ m c (quarter j)) (DYB m c) else k0_pay5 (k0_pay2 (WQ m c (quarter j)) (DYB m c))
/-- The same rounded, as it is sent. -/
def T (c : Dev nD) (j : Fin 8) : FVec F S1x1x256x128 .bf16 :=
  if j.val % 2 = 0 then k0_pay4 (WQ m c (quarter j)) (DYB m c) else k0_pay6 (k0_pay2 (WQ m c (quarter j)) (DYB m c))

/-- The exchange buffer: in half 0 what device `c` sends, in half 1 what it receives. -/
def YB (c : Dev nD) : Vec F S2x8x256x128 .bf16 := fun x =>
  T m (if (x 0).val = 0 then c else py c) (x 1) (fun a => match a with
    | ⟨0, _⟩ => (0 : Fin 1)
    | ⟨1, _⟩ => (0 : Fin 1)
    | ⟨2, _⟩ => x 2
    | ⟨3, _⟩ => x 3)

/-- What device `c` computes of the result at chunk `j`. -/
def O (c : Dev nD) (j : Fin 8) : FVec F S256x128 .bf16 := k0_pay17 (P m c j) (T m (py c) j)

/-- The result on device `c`. -/
def FO (c : Dev nD) : Vec F S1024x1024 .bf16 := fun i =>
  O m (src c ((i 0).val / 256)) ⟨(i 1).val / 128, by have h : (i 1).val < 1024 := (i 1).isLt; omega⟩
    (Shape.pair (d := ![256, 128]) ⟨(i 0).val % 256, Nat.mod_lt _ (by decide)⟩ ⟨(i 1).val % 128, Nat.mod_lt _ (by decide)⟩)

theorem FO_px (c : Dev nD) : FO m (px c) = FO m c := by
  funext i; unfold FO; rw [src_px]
theorem FO_pz (c : Dev nD) : FO m (pz c) = FO m c := by
  funext i; unfold FO; rw [src_pz]

/-- Writing through a view what the same view reads leaves the read contents on the view's elements. -/
theorem write_read_same {sp : Space} {s : Shape} {e : EltTy} (v : View sig .tc sp s e) (fd fs : v.ty.Contents (Elt F)) :
    ∀ i ∈ v.set, v.write (Elt F) fd (v.read (Elt F) fs) Finset.univ i = fs i := by
  intro i hi
  obtain ⟨x, -, rfl⟩ := Finset.mem_map.mp hi
  rw [View.write_emb_of_mem _ _ (Finset.mem_univ x), View.read_apply, cast_cast, cast_eq]

/-- What is written through a view is what the target holds there. -/
theorem write_eq_of {sp : Space} {s : Shape} {e : EltTy} (v : View sig .tc sp s e) (fd f : v.ty.Contents (Elt F)) (w : s.Idx → Elt F e)
    (h : ∀ x, w x = v.read (Elt F) f x) : ∀ i ∈ v.set, v.write (Elt F) fd w Finset.univ i = f i := by
  rw [show w = v.read (Elt F) f from funext h]
  exact write_read_same v fd f

/-- The exchange buffer's two halves, read: what device `c` sends and what its `y` neighbour does. -/
theorem read_YB (c : Dev nD) (i : Fin 2) (j : Fin 8) :
    bufsM.view.readAt (Elt F) (bufRect i j).toLoadRect (YB m c) = T m (if i.val = 0 then c else py c) j := by
  funext y
  rw [View.readAt_rect]
  show YB m c ((bufRect i j).emb y) = _
  have e0 : ((bufRect i j).emb y 0).val = i.val := by
    have := ValueKit.rect_emb_unit_val (s := S2x8x256x128) ![i.val, j.val, 0, 0] S1x1x256x128.size (buf_inb i j) y 0
    have hy : (y 0).val < 1 := (y 0).isLt
    rw [this]; show i.val + (y 0).val = i.val; omega
  have e1 : (bufRect i j).emb y 1 = j := by
    apply Fin.ext
    have := ValueKit.rect_emb_unit_val (s := S2x8x256x128) ![i.val, j.val, 0, 0] S1x1x256x128.size (buf_inb i j) y 1
    have hy : (y 1).val < 1 := (y 1).isLt
    rw [this]; show j.val + (y 1).val = j.val; omega
  unfold YB
  rw [e0, e1]
  congr 1
  funext a
  apply Fin.ext
  fin_cases a
  · have hy : (y 0).val < 1 := (y 0).isLt
    show 0 = (y 0).val; omega
  · have hy : (y 1).val < 1 := (y 1).isLt
    show 0 = (y 1).val; omega
  · exact (ValueKit.rect_emb_unit_val (s := S2x8x256x128) ![i.val, j.val, 0, 0] S1x1x256x128.size (buf_inb i j) y 2).trans (Nat.zero_add _)
  · exact (ValueKit.rect_emb_unit_val (s := S2x8x256x128) ![i.val, j.val, 0, 0] S1x1x256x128.size (buf_inb i j) y 3).trans (Nat.zero_add _)

/-- What is sent is what the neighbour's second half holds. -/
theorem YB_sent (c : Dev nD) (j : Fin 8) (x : S256x128.Idx) :
    (bufM 0 j).view.read (Elt F) (YB m c) x = (bufM 1 j).view.read (Elt F) (YB m (py c)) x := by
  have h0 := congrFun (read_YB m c 0 j) (Shape.reshapeEquiv squeezes_S1x1x256x128_S256x128.numel_eq x)
  have h1 := congrFun (read_YB m (py c) 1 j) (Shape.reshapeEquiv squeezes_S1x1x256x128_S256x128.numel_eq x)
  rw [if_pos (by decide)] at h0
  rw [if_neg (by decide), py_py] at h1
  exact h0.trans h1.symm

/-- The quarter of the weights copied in is what the scratch then holds. -/
theorem WF_copied (c : Dev nD) (g : Fin 4) (x : S256x4096.Idx) :
    (wRows g).view.read (Elt F) (wArg m c) x = (wfM g).view.read (Elt F) (WF m c) x := by
  show wArg m c ((wRows g).view.emb x) = WF m c ((wfRect g).emb (Shape.reshapeEquiv squeezes_S1x256x4096_S256x4096.numel_eq x))
  set y := Shape.reshapeEquiv squeezes_S1x256x4096_S256x4096.numel_eq x with hy
  have hv : ∀ a, ((wfRect g).emb y a : Nat) = (![g.val, 0, 0] : Fin 3 → ℕ) a + (y a).val :=
    fun a => ValueKit.rect_emb_unit_val (s := S4x256x4096) ![g.val, 0, 0] S1x256x4096.size (wf_inb g) y a
  have hy0 : (y 0).val = 0 := by have h : (y 0).val < 1 := (y 0).isLt; omega
  have hy1 : (y 1).val = (x 0).val := by
    rw [hy]; exact congrArg (fun z : S1x256x4096.Idx => (z 1).val) (Shape.reshapeEquiv_cons_one (d := ![256, 4096]) _ x)
  have hy2 : (y 2).val = (x 1).val := by
    rw [hy]; exact congrArg (fun z : S1x256x4096.Idx => (z 2).val) (Shape.reshapeEquiv_cons_one (d := ![256, 4096]) _ x)
  have w0 : ((wfRect g).emb y 0 : Nat) = g.val := (hv 0).trans (by show g.val + (y 0).val = g.val; omega)
  have w1 : ((wfRect g).emb y 1 : Nat) = (x 0).val := (hv 1).trans (by show 0 + (y 1).val = _; omega)
  have w2 : ((wfRect g).emb y 2 : Nat) = (x 1).val := (hv 2).trans (by show 0 + (y 2).val = _; omega)
  have hr : ∀ a, ((wRows g).view.emb x a : Nat) = (![256 * g.val, 0] : Fin 2 → ℕ) a + (x a).val :=
    fun a => ValueKit.rect_emb_unit_val (s := S1024x4096) ![256 * g.val, 0] S256x4096.size (wrow_inb g) x a
  unfold WF
  congr 1
  funext a
  apply Fin.ext
  fin_cases a
  · refine (hr 0).trans ?_
    show 256 * g.val + (x 0).val = 256 * ((wfRect g).emb y 0 : Nat) + ((wfRect g).emb y 1 : Nat)
    rw [w0, w1]
  · refine (hr 1).trans ?_
    show 0 + (x 1).val = ((wfRect g).emb y 2 : Nat)
    rw [w2, Nat.zero_add]

/-- The own block of the result, read, is what the device computes. -/
theorem read_FO (c : Dev nD) (j : Fin 8) (y : S256x128.Idx) :
    (bandM (ownBand c j)).view.read (Elt F) (FO m c) y = O m c j y := by
  show FO m c ((bandRect (ownBand c j)).emb y) = _
  have hv : ∀ a, ((bandRect (ownBand c j)).emb y a : Nat) = (ownBand c j).1 a + (y a).val :=
    fun a => ValueKit.rect_emb_unit_val (s := S1024x1024) (ownBand c j).1 S256x128.size (ownBand c j).2 y a
  have h0 : ((bandRect (ownBand c j)).emb y 0 : Nat) = 512 * (c.val / 4) + 256 * (c.val % 2) + (y 0).val := hv 0
  have h1 : ((bandRect (ownBand c j)).emb y 1 : Nat) = 128 * j.val + (y 1).val := hv 1
  have hy0 : (y 0).val < 256 := (y 0).isLt
  have hy1 : (y 1).val < 128 := (y 1).isLt
  have := dev_lt c
  unfold FO
  rw [src_own c _ (by rw [h0]; omega)]
  have ej : (⟨((bandRect (ownBand c j)).emb y 1 : Nat) / 128, by rw [h1]; have := j.isLt; omega⟩ : Fin 8) = j := Fin.ext (by show _ / 128 = _; rw [h1]; omega)
  rw [ej]
  congr 1
  funext a
  apply Fin.ext
  fin_cases a
  · show ((bandRect (ownBand c j)).emb y 0 : Nat) % 256 = (y 0).val; rw [h0]; omega
  · show ((bandRect (ownBand c j)).emb y 1 : Nat) % 128 = (y 1).val; rw [h1]; omega

end Cert.KernelProof

end
-- ==== Proof.Sched.lean ====
/- The protocol of the exchanges: every semaphore the kernel uses is a cell with one round. A cell of an exchange has one
   duty, paid by the transfer, whose payload is the piece the transfer carries; the barrier cell has three duties, paid by
   the three neighbours, whose payloads are the places their buffers lend to this device's transfers.
   Also here: what a device still owes along its list of transfers, and the levels that order the waits. -/
module

public import proofs.«01_k».proof.Proof.Mesh

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

theorem q_lt (q : DmaSem sig) : q.val < 86 := q.isLt

/-- The semaphores of the local copies: `dy`, then the four quarters of the weights. -/
def lq (i : Fin 5) : DmaSem sig := ⟨1 + i.val, by have := i.isLt; show _ < 86; omega⟩
/-- The send and receive semaphores of exchange kind `k` and chunk `j`. -/
def sq (k : Fin 5) (j : Fin 8) : DmaSem sig := ⟨6 + 8 * k.val + j.val, by have := k.isLt; have := j.isLt; show _ < 86; omega⟩
def rq (k : Fin 5) (j : Fin 8) : DmaSem sig := ⟨46 + 8 * k.val + j.val, by have := k.isLt; have := j.isLt; show _ < 86; omega⟩

theorem dyS_eq : dyS = lq 0 := by decide +kernel
theorem wS_eq : ∀ g : Fin 4, wS g = lq g.succ := by decide +kernel
theorem sndS_eq : ∀ (k : Fin 5) (j : Fin 8), sndS k j = sq k j := by decide +kernel
theorem rcvS_eq : ∀ (k : Fin 5) (j : Fin 8), rcvS k j = rq k j := by decide +kernel

/-- The exchange a semaphore belongs to. -/
def slot (q : DmaSem sig) : Fin 5 × Fin 8 := (⟨(q.val - 6) / 8 % 5, Nat.mod_lt _ (by decide)⟩, ⟨(q.val - 6) % 8, Nat.mod_lt _ (by decide)⟩)

theorem slot_sq (k : Fin 5) (j : Fin 8) : slot (sq k j) = (k, j) := by
  have := k.isLt; have := j.isLt
  refine Prod.ext (Fin.ext ?_) (Fin.ext ?_)
  · show (6 + 8 * k.val + j.val - 6) / 8 % 5 = k.val; omega
  · show (6 + 8 * k.val + j.val - 6) % 8 = j.val; omega
theorem slot_rq (k : Fin 5) (j : Fin 8) : slot (rq k j) = (k, j) := by
  have := k.isLt; have := j.isLt
  refine Prod.ext (Fin.ext ?_) (Fin.ext ?_)
  · show (46 + 8 * k.val + j.val - 6) / 8 % 5 = k.val; omega
  · show (46 + 8 * k.val + j.val - 6) % 8 = j.val; omega

abbrev barCell (c : Dev nD) : GSem nD τ sig := ((c : Thread nD τ), .reg barS)
abbrev qCell (c : Dev nD) (q : DmaSem sig) : GSem nD τ sig := ((c : Thread nD τ), .dma q)

/-- What a transfer adds to its semaphores. -/
def amt (q : DmaSem sig) : ℕ :=
  if q.val = 1 then dyf.view.dmaCredit else if q.val < 6 then (wfM 0).view.dmaCredit
  else match (slot q).1 with
    | 0 => (bufM 0 0).view.dmaCredit
    | 1 => (bandM (ownBand 0 0)).view.dmaCredit
    | 2 => (bandM (ownBand 0 0)).view.dmaCredit
    | 3 => (halfM (dzHalf 0 0)).view.dmaCredit
    | 4 => (halfM (dzHalf 0 0)).view.dmaCredit

/-- The amount of exchange kind `k`. -/
def kAmt (k : Fin 5) : ℕ := match k with
  | 0 => (bufM 0 0).view.dmaCredit
  | 1 => (bandM (ownBand 0 0)).view.dmaCredit
  | 2 => (bandM (ownBand 0 0)).view.dmaCredit
  | 3 => (halfM (dzHalf 0 0)).view.dmaCredit
  | 4 => (halfM (dzHalf 0 0)).view.dmaCredit

theorem amt_sq (k : Fin 5) (j : Fin 8) : amt (sq k j) = kAmt k := by
  unfold amt
  rw [if_neg (by show ¬ 6 + 8 * k.val + j.val = 1; omega), if_neg (by show ¬ 6 + 8 * k.val + j.val < 6; omega), slot_sq]
  rfl
theorem amt_rq (k : Fin 5) (j : Fin 8) : amt (rq k j) = kAmt k := by
  unfold amt
  rw [if_neg (by show ¬ 46 + 8 * k.val + j.val = 1; omega), if_neg (by show ¬ 46 + 8 * k.val + j.val < 6; omega), slot_rq]
  rfl
theorem amt_dy : amt (lq 0) = dyf.view.dmaCredit := if_pos rfl
theorem amt_w (g : Fin 4) : amt (lq g.succ) = (wfM 0).view.dmaCredit := by
  unfold amt
  have hv : (lq g.succ).val = 2 + g.val := by show 1 + (g.val + 1) = _; omega
  rw [if_neg (by rw [hv]; omega), if_pos (by rw [hv]; have := g.isLt; omega)]
theorem amt_pos (q : DmaSem sig) : 0 < amt q := by
  unfold amt
  split
  · exact View.dmaCredit_pos _ (by decide)
  split
  · exact View.dmaCredit_pos _ (by decide)
  split <;> exact View.dmaCredit_pos _ (by decide)

/-! ## Pieces as resources -/

/-- A band of the result on device `c`, at a share, holding what `f` holds there; the same of a half and of a piece of the exchange buffer. -/
def bandPts (c : Dev nD) (o : Band) (q : PosShare TreeShare) (f : Vec F S1024x1024 .bf16) : sProp 𝕄 :=
  (bandM o).view.loc (c : Thread nD τ) ↦[(bandM o).view.set]{q} f
def halfPts (c : Dev nD) (o : HalfBand) (f : Vec F S1024x1024 .bf16) : sProp 𝕄 :=
  (halfM o).view.loc (c : Thread nD τ) ↦[(halfM o).view.set]{fullShare} f
def bufPts (c : Dev nD) (i : Fin 2) (j : Fin 8) (f : Vec F S2x8x256x128 .bf16) : sProp 𝕄 :=
  (bufM i j).view.loc (c : Thread nD τ) ↦[(bufM i j).view.set]{fullShare} f
/-- A quarter of the weight scratch, of the weights and the rows of `dy`. -/
def wfPts (c : Dev nD) (g : Fin 4) (f : Vec F S4x256x4096 .f32) : sProp 𝕄 :=
  (wfM g).view.loc (c : Thread nD τ) ↦[(wfM g).view.set]{fullShare} f
def wPts (c : Dev nD) (g : Fin 4) (f : Vec F S1024x4096 .f32) : sProp 𝕄 :=
  (wRows g).view.loc (c : Thread nD τ) ↦[(wRows g).view.set]{fullShare} f
def dyPts (c : Dev nD) (f : Vec F S1024x4096 .f32) : sProp 𝕄 :=
  (dyRows c).view.loc (c : Thread nD τ) ↦[(dyRows c).view.set]{fullShare} f
def dyfPts (c : Dev nD) (f : Vec F S256x4096 .f32) : sProp 𝕄 :=
  dyf.view.loc (c : Thread nD τ) ↦[dyf.view.set]{fullShare} f

instance bandPts_storable (c : Dev nD) (o q f) : BI.Storable (upEmb : UEmb _ 𝕄) (bandPts (F := F) c o q f) := by unfold bandPts; infer_instance
instance halfPts_storable (c : Dev nD) (o f) : BI.Storable (upEmb : UEmb _ 𝕄) (halfPts (F := F) c o f) := by unfold halfPts; infer_instance
instance bufPts_storable (c : Dev nD) (i j f) : BI.Storable (upEmb : UEmb _ 𝕄) (bufPts (F := F) c i j f) := by unfold bufPts; infer_instance
instance wfPts_storable (c : Dev nD) (g f) : BI.Storable (upEmb : UEmb _ 𝕄) (wfPts (F := F) c g f) := by unfold wfPts; infer_instance
instance wPts_storable (c : Dev nD) (g f) : BI.Storable (upEmb : UEmb _ 𝕄) (wPts (F := F) c g f) := by unfold wPts; infer_instance
instance dyPts_storable (c : Dev nD) (f) : BI.Storable (upEmb : UEmb _ 𝕄) (dyPts (F := F) c f) := by unfold dyPts; infer_instance
instance dyfPts_storable (c : Dev nD) (f) : BI.Storable (upEmb : UEmb _ 𝕄) (dyfPts (F := F) c f) := by unfold dyfPts; infer_instance

variable (m : (ℓ : Loc nD τ sig) → Buf (Elt F) ℓ)

/-- What exchange `k` of chunk `j` reads on device `c`, with its contents. -/
def sent (k : Fin 5) (c : Dev nD) (j : Fin 8) : sProp 𝕄 := match k with
  | 0 => bufPts c 0 j (YB m c)
  | 1 => bandPts c (ownBand c j) fullShare.left (FO m c)
  | 2 => bandPts c (ownBand c j) fullShare.right (FO m c)
  | 3 => halfPts c (dzHalf c j) (FO m c)
  | 4 => halfPts c (dxHalf c j) (FO m c)

/-- What has arrived on device `c` when its receive semaphore of exchange `k`, chunk `j` is raised. -/
def landed (k : Fin 5) (c : Dev nD) (j : Fin 8) : sProp 𝕄 := match k with
  | 0 => bufPts c 1 j (YB m c)
  | 1 => bandPts c (ownBand (px c) j) fullShare (FO m c)
  | 2 => bandPts c (ownBand (pz c) j) fullShare (FO m c)
  | 3 => halfPts c (dzHalf (pz c) j) (FO m c)
  | 4 => halfPts c (dxHalf (px c) j) (FO m c)

/-- The place on the neighbour that exchange `k`, chunk `j` of device `c` writes. -/
def room (k : Fin 5) (c : Dev nD) (j : Fin 8) : sProp 𝕄 := match k with
  | 0 => iprop(∃ f, bufPts (F := F) (py c) 1 j f)
  | 1 => iprop(∃ f, bandPts (F := F) (px c) (ownBand c j) fullShare f)
  | 2 => iprop(∃ f, bandPts (F := F) (pz c) (ownBand c j) fullShare f)
  | 3 => iprop(∃ f, halfPts (F := F) (pz c) (dzHalf c j) f)
  | 4 => iprop(∃ f, halfPts (F := F) (px c) (dxHalf c j) f)

/-- What the neighbour hands over with its barrier signal: `0` the `x` neighbour, `1` the `y`, `2` the `z`. -/
def barPay (c : Dev nD) (d : Fin 3) : sProp 𝕄 := match d with
  | 0 => bigSep Finset.univ fun j : Fin 8 => iprop(room (F := F) 1 c j ∗ room (F := F) 4 c j)
  | 1 => bigSep Finset.univ fun j : Fin 8 => room (F := F) 0 c j
  | 2 => bigSep Finset.univ fun j : Fin 8 => iprop(room (F := F) 2 c j ∗ room (F := F) 3 c j)

/-- What a local copy leaves: the written place and the source. -/
def locPay (c : Dev nD) (i : ℕ) : sProp 𝕄 :=
  if i = 1 then iprop(dyfPts c (DY m c) ∗ dyPts c (dyArg m c))
  else iprop(wfPts c ⟨(i - 2) % 4, Nat.mod_lt _ (by decide)⟩ (WF m c) ∗ wPts c ⟨(i - 2) % 4, Nat.mod_lt _ (by decide)⟩ (wArg m c))

def dmaPay (c : Dev nD) (q : DmaSem sig) : sProp 𝕄 :=
  if q.val < 6 then locPay m c q.val
  else if q.val < 46 then sent m (slot q).1 c (slot q).2
  else landed m (slot q).1 c (slot q).2

theorem dmaPay_sq (c : Dev nD) (k : Fin 5) (j : Fin 8) : dmaPay m c (sq k j) = sent m k c j := by
  have := k.isLt; have := j.isLt
  unfold dmaPay
  rw [if_neg (by show ¬ 6 + 8 * k.val + j.val < 6; omega), if_pos (by show 6 + 8 * k.val + j.val < 46; omega), slot_sq]
theorem dmaPay_rq (c : Dev nD) (k : Fin 5) (j : Fin 8) : dmaPay m c (rq k j) = landed m k c j := by
  unfold dmaPay
  rw [if_neg (by show ¬ 46 + 8 * k.val + j.val < 6; omega), if_neg (by show ¬ 46 + 8 * k.val + j.val < 46; omega), slot_rq]
theorem dmaPay_dy (c : Dev nD) : dmaPay m c (lq 0) = iprop(dyfPts c (DY m c) ∗ dyPts c (dyArg m c)) := by
  unfold dmaPay; rw [if_pos (by decide)]; unfold locPay; rw [if_pos (by decide)]
theorem dmaPay_w (c : Dev nD) (g : Fin 4) : dmaPay m c (lq g.succ) = iprop(wfPts c g (WF m c) ∗ wPts c g (wArg m c)) := by
  unfold dmaPay
  have hv : (lq g.succ).val = 2 + g.val := by show 1 + (g.val + 1) = _; omega
  have hg : (⟨(2 + g.val - 2) % 4, Nat.mod_lt _ (by decide)⟩ : Fin 4) = g := Fin.ext (by show (2 + g.val - 2) % 4 = g.val; have := g.isLt; omega)
  rw [hv, if_pos (by have := g.isLt; omega)]; unfold locPay; rw [if_neg (by omega), hg]

instance sent_storable (k c j) : BI.Storable (upEmb : UEmb _ 𝕄) (sent (F := F) m k c j) := by unfold sent; split <;> infer_instance
instance landed_storable (k c j) : BI.Storable (upEmb : UEmb _ 𝕄) (landed (F := F) m k c j) := by unfold landed; split <;> infer_instance
instance room_storable (k c j) : BI.Storable (upEmb : UEmb _ 𝕄) (room (F := F) k c j) := by unfold room; split <;> infer_instance
instance barPay_storable (c d) : BI.Storable (upEmb : UEmb _ 𝕄) (barPay (F := F) c d) := by unfold barPay; split <;> infer_instance
instance dmaPay_storable (c q) : BI.Storable (upEmb : UEmb _ 𝕄) (dmaPay (F := F) m c q) := by
  unfold dmaPay locPay; (repeat' split) <;> infer_instance

/-! ## The schedule -/

/-- One round: the barrier cell has a duty per neighbour, of one unit each, a cell of a copy one duty of the copy's amount. -/
def sched : Rounds.Schedule (GSem nD τ sig) (Fin 3) 𝕄 where
  duties g r := if r = 0 ∧ g.1.2 = .tc then
      (match g.2 with
        | .reg s => if s = barS then Finset.univ else ∅
        | .dma q => if q.val = 0 then ∅ else {0})
    else ∅
  unitless _ := False
  amount g _ _ := match g.2 with
    | .reg _ => 1
    | .dma q => amt q
  payload g _ d := match g.2 with
    | .reg _ => barPay g.1.1 d
    | .dma q => dmaPay m g.1.1 q
  amount_pos g _ _ _ := by
    cases h : g.2 with
    | reg s => exact Nat.one_pos
    | dma q => exact amt_pos q

instance sched_storable (g : GSem nD τ sig) (r : ℕ) (d : Fin 3) : BI.Storable (upEmb : UEmb _ 𝕄) ((sched (F := F) m).payload g r d) := by
  show BI.Storable upEmb (match g.2 with
    | .reg _ => barPay g.1.1 d
    | .dma q => dmaPay m g.1.1 q)
  split <;> infer_instance

theorem duties_bar (c : Dev nD) : (sched (F := F) m).duties (barCell c) 0 = Finset.univ := by
  dsimp only [sched]; rw [if_pos ⟨rfl, rfl⟩]; exact if_pos rfl
theorem duties_q (c : Dev nD) (q : DmaSem sig) (hq : q.val ≠ 0) : (sched (F := F) m).duties (qCell c q) 0 = {0} := by
  dsimp only [sched]; rw [if_pos ⟨rfl, rfl⟩]; exact if_neg hq
theorem duties_later (g : GSem nD τ sig) : ∀ r, 1 ≤ r → (sched (F := F) m).duties g r = ∅ :=
  fun r hr => by dsimp only [sched]; rw [if_neg fun h => by omega]
theorem amount_bar (c : Dev nD) (d : Fin 3) : (sched (F := F) m).amount (barCell c) 0 d = 1 := rfl
theorem amount_q (c : Dev nD) (q : DmaSem sig) (d : Fin 3) : (sched (F := F) m).amount (qCell c q) 0 d = amt q := rfl
theorem payload_bar (c : Dev nD) (d : Fin 3) : (sched (F := F) m).payload (barCell c) 0 d = barPay c d := rfl
theorem payload_q (c : Dev nD) (q : DmaSem sig) (d : Fin 3) : (sched (F := F) m).payload (qCell c q) 0 d = dmaPay m c q := rfl

theorem expect_bar (c : Dev nD) : (sched (F := F) m).expect (barCell c) 0 = 3 := by
  unfold Schedule.expect Schedule.amountOf
  rw [duties_bar, Finset.sum_congr rfl fun d _ => amount_bar m c d]; rfl
theorem expect_q (c : Dev nD) (q : DmaSem sig) (hq : q.val ≠ 0) : (sched (F := F) m).expect (qCell c q) 0 = amt q := by
  unfold Schedule.expect Schedule.amountOf; rw [duties_q m c q hq, Finset.sum_singleton, amount_q]

theorem rest_bar (c : Dev nD) : bigSep ((sched (F := F) m).duties (barCell c) 0 \ ∅) (fun d => (sched (F := F) m).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
theorem rest_q (c : Dev nD) (q : DmaSem sig) (hq : q.val ≠ 0) :
    bigSep ((sched (F := F) m).duties (qCell c q) 0 \ ∅) (fun d => (sched (F := F) m).payload (qCell c q) 0 d) = dmaPay m c q := by
  rw [Finset.sdiff_empty, duties_q m c q hq, bigSep_singleton, payload_q]

/-! ## What is owed, and the levels -/

/-- The transfers to other devices in the order the kernel starts them: kind and chunk. -/
def order : List (Fin 5 × Fin 8) :=
  [(0, 0), (0, 1), (0, 2), (0, 3), (0, 4), (0, 5), (1, 0), (2, 0), (1, 1), (2, 1), (0, 6), (0, 7), (1, 2), (2, 2), (3, 0), (4, 0),
   (1, 3), (2, 3), (3, 1), (4, 1), (1, 4), (2, 4), (3, 2), (4, 2), (1, 5), (2, 5), (3, 3), (4, 3), (1, 6), (2, 6), (3, 4), (4, 4),
   (1, 7), (2, 7), (3, 5), (4, 5), (3, 6), (4, 6), (3, 7), (4, 7)]

/-- The place of a transfer in that order. -/
def rank (x : Fin 5 × Fin 8) : ℕ := order.idxOf x

/-- What device `c` owes for the transfers in `l`: each receive semaphore of the neighbour its amount. -/
def owed (c : Dev nD) : List (Fin 5 × Fin 8) → CellTallies nD τ sig Unit
  | [] => 0
  | x :: l => owed c l + tallyAt (qCell (peer x.1 c) (rq x.1 x.2)) () (kAmt x.1)

/-- What device `c` owes at the start: its transfers and a unit to each neighbour's barrier. -/
def O₀ (c : Dev nD) : CellTallies nD τ sig Unit :=
  owed c order + tallyAt (barCell (pz c)) () 1 + tallyAt (barCell (py c)) () 1 + tallyAt (barCell (px c)) () 1

def L (g : GSem nD τ sig) : Finset Unit := if g.1.2 = .tc then {()} else ∅
/-- Barriers at level 1, the receive semaphores above in the order of their transfers, every other semaphore at 0. -/
def lv (g : GSem nD τ sig) (_ : Unit) : ℕ := match g.2 with
  | .reg _ => 1
  | .dma q => if q.val < 46 then 0 else 2 + rank (slot q)

theorem L_of_ne (g : GSem nD τ sig) (h : g.1.2 ≠ .tc) : L g = ∅ := if_neg h
theorem L_tc (c : Dev nD) (sm : SemLoc sig) : L ((c : Thread nD τ), sm) = {()} := if_pos rfl

theorem lv_rq (c : Dev nD) (k : Fin 5) (j : Fin 8) : lv (qCell c (rq k j)) () = 2 + rank (k, j) := by
  dsimp only [lv]; rw [if_neg (by show ¬ 46 + 8 * k.val + j.val < 46; omega), slot_rq]
theorem lv_low (c : Dev nD) (q : DmaSem sig) (hq : q.val < 46) : lv (qCell c q) () = 0 := by
  dsimp only [lv]; rw [if_pos hq]

theorem add_tally_pos {A : CellTallies nD τ sig Unit} {g g' : GSem nD τ sig} {u : Unit} {n : ℕ}
    (h : 0 < (A + tallyAt g' () n) g u) : 0 < A g u ∨ g = g' := by
  rw [Pi.add_apply, Finsupp.add_apply, tallyAt_apply] at h
  by_cases hg : g = g'
  · exact .inr hg
  · rw [if_neg (fun h' => hg h'.1)] at h; exact .inl h

theorem owed_pos {c : Dev nD} {l : List (Fin 5 × Fin 8)} {g : GSem nD τ sig} {u : Unit} (h : 0 < owed c l g u) :
    ∃ x ∈ l, g = qCell (peer x.1 c) (rq x.1 x.2) := by
  induction l with
  | nil => exact absurd h (Nat.lt_irrefl 0)
  | cons x l ih =>
    rcases add_tally_pos h with h | h
    · obtain ⟨y, hy, e⟩ := ih h
      exact ⟨y, List.mem_cons_of_mem _ hy, e⟩
    · exact ⟨x, List.mem_cons_self, h⟩

/-- A wait whose level is below those of all transfers still owed is allowed. -/
theorem mayWait_owed (c : Dev nD) (sm : SemLoc sig) (l : List (Fin 5 × Fin 8))
    (h : ∀ x ∈ l, lv ((c : Thread nD τ), sm) () < 2 + rank x) :
    (levAts L lv : sProp 𝕄) ⊢ MayWait (c : Thread nD τ) sm () (owed c l) := by
  refine MayOwe.of_cut (L := L) (lev := lv) (lv ((c : Thread nD τ), sm) ()) (fun p hp => by rw [Finset.mem_singleton.mp hp, L_tc]; exact Finset.mem_singleton_self _)
    (fun g u hg => ?_) (fun p hp => by rw [Finset.mem_singleton.mp hp]) (fun g u hg => ?_)
  · obtain ⟨x, -, rfl⟩ := owed_pos hg; rw [L_tc]; exact Finset.mem_singleton_self _
  · obtain ⟨x, hx, rfl⟩ := owed_pos hg
    show _ < lv (qCell (peer x.1 c) (rq x.1 x.2)) ()
    rw [lv_rq]; exact h x hx

theorem O₀_pos {c : Dev nD} {g : GSem nD τ sig} {u : Unit} (h : 0 < O₀ c g u) :
    (∃ x ∈ order, g = qCell (peer x.1 c) (rq x.1 x.2)) ∨ ∃ d, g = barCell d := by
  unfold O₀ at h
  rcases add_tally_pos h with h | h
  · rcases add_tally_pos h with h | h
    · rcases add_tally_pos h with h | h
      · exact .inl (owed_pos h)
      · exact .inr ⟨_, h⟩
    · exact .inr ⟨_, h⟩
  · exact .inr ⟨_, h⟩

/-- Waits on the semaphores at level 0 are allowed at the start and at the end. -/
theorem mayWait_low (c : Dev nD) (q : DmaSem sig) (hq : q.val < 46) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact Nat.le_of_eq (lv_low c q hq)) (fun g u hg => ?_)
    · rcases O₀_pos hg with ⟨x, -, rfl⟩ | ⟨d, rfl⟩ <;> exact Finset.mem_singleton_self _
    · rcases O₀_pos hg with ⟨x, -, rfl⟩ | ⟨d, rfl⟩
      · show 0 < lv (qCell (peer x.1 c) (rq x.1 x.2)) ()
        rw [lv_rq]; omega
      · exact Nat.one_pos
  · rw [MayWait_zero]; iintro -; iempintro

end Cert.KernelProof

end
-- ==== Proof.Steps.lean ====
/- One rule per kind of step: starting a transfer to a neighbour, starting a local copy, waiting on a semaphore. -/
module

public import proofs.«01_k».proof.Proof.Sched

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev WP {α : Type} (c : Dev nD) (p : KProg (F := F) α) (Q : α → sProp 𝕄) : sProp 𝕄 :=
  wp frame (wpE (defs₀ (F := F)) 𝒱₀ (c : Thread nD τ) none) Set.univ p Q

/-! ## The records of all cells -/

/-- The semaphores the kernel uses on one device: the barrier and the 85 semaphores of copies. -/
def csem : Option (Fin 85) → SemLoc sig
  | none => .reg barS
  | some i => .dma ⟨i.val + 1, by have := i.isLt; show _ < 86; omega⟩
abbrev kcell (ck : Dev nD × Option (Fin 85)) : GSem nD τ sig := ((ck.1 : Thread nD τ), csem ck.2)

/-- Of every cell its invariant, and that round 0 is reached. -/
def recs : sProp 𝕄 := bigSep Finset.univ fun ck : Dev nD × Option (Fin 85) =>
  iprop((∃ κ, cellInv ER (sched (F := F) m) κ (kcell ck)) ∗ reached ER (kcell ck) 0)

instance recs_persistent : BI.Persistent (recs (F := F) m) := by unfold recs; infer_instance

/-- What every step may use: the records and the levels. -/
def ctx : sProp 𝕄 := iprop(recs m ∗ levAts L lv)
instance ctx_persistent : BI.Persistent (ctx (F := F) m) := by unfold ctx; infer_instance

theorem ctx_at (ck : Dev nD × Option (Fin 85)) :
    ctx m ⊢ (iprop((∃ κ, cellInv ER (sched (F := F) m) κ (kcell ck)) ∗ reached ER (kcell ck) 0) : sProp 𝕄) := by
  have h : recs m ⊢ (iprop((∃ κ, cellInv ER (sched (F := F) m) κ (kcell ck)) ∗ reached ER (kcell ck) 0) : sProp 𝕄) := by
    unfold recs; exact bigSep_elim (Finset.mem_univ ck)
  unfold ctx
  iintro ⟨H, -⟩
  iapply h; iexact H

theorem ctx_bar (c : Dev nD) :
    ctx m ⊢ (iprop((∃ κ, cellInv ER (sched (F := F) m) κ (barCell c)) ∗ reached ER (barCell c) 0) : sProp 𝕄) := ctx_at m (c, none)
theorem ctx_q (c : Dev nD) (q : DmaSem sig) (hq : q.val ≠ 0) :
    ctx m ⊢ (iprop((∃ κ, cellInv ER (sched (F := F) m) κ (qCell c q)) ∗ reached ER (qCell c q) 0) : sProp 𝕄) := by
  have h := ctx_at m (c, some ⟨q.val - 1, by have := q_lt q; omega⟩)
  have e : kcell (c, some ⟨q.val - 1, by have := q_lt q; omega⟩) = qCell c q := by
    unfold kcell csem
    refine congrArg (fun s : DmaSem sig => (((c : Dev nD) : Thread nD τ), SemLoc.dma s)) (Fin.ext ?_)
    show q.val - 1 + 1 = q.val; omega
  rw [e] at h; exact h
theorem ctx_lev : ctx (F := F) m ⊢ (levAts L lv : sProp 𝕄) := by
  unfold ctx; iintro ⟨-, H⟩; iexact H

/-! ## What a device holds of its semaphores -/

/-- Of a semaphore something is on its way to: the position and the credit to wait with. -/
def waiting (c : Dev nD) (q : DmaSem sig) : sProp 𝕄 := iprop(atPos ER (qCell c q) 0 ∅ 0 ∗ cred (tallyAt (qCell c q) () (amt q)))
/-- Of a local copy's semaphore before the copy. -/
def locIdle (c : Dev nD) (q : DmaSem sig) : sProp 𝕄 := iprop(atPos ER (qCell c q) 0 ∅ 0 ∗ dutyTok ER (qCell c q) 0 0)
/-- Of the semaphores of an exchange before it is started: the duty tokens of the two cells it raises are this device's. -/
def idle (c : Dev nD) (k : Fin 5) (j : Fin 8) : sProp 𝕄 :=
  iprop(locIdle c (sq k j) ∗ dutyTok ER (qCell (peer k c) (rq k j)) 0 0 ∗ waiting c (rq k j))
/-- After it is started. -/
def flight (c : Dev nD) (k : Fin 5) (j : Fin 8) : sProp 𝕄 := iprop(waiting c (sq k j) ∗ waiting c (rq k j))
/-- After both waits. -/
def over (c : Dev nD) (k : Fin 5) (j : Fin 8) : sProp 𝕄 := iprop(semVal (qCell c (sq k j)) 0 ∗ semVal (qCell c (rq k j)) 0)
/-- What is owed of the transfers in `l`, at some waits made. -/
def owesX (c : Dev nD) (l : List (Fin 5 × Fin 8)) : sProp 𝕄 := iprop(∃ W, owes (c : Thread nD τ) (owed c l) W)

theorem sq_ne (k : Fin 5) (j : Fin 8) : (sq k j).val ≠ 0 := by show 6 + 8 * k.val + j.val ≠ 0; omega
theorem rq_ne (k : Fin 5) (j : Fin 8) : (rq k j).val ≠ 0 := by show 46 + 8 * k.val + j.val ≠ 0; omega
theorem lq_ne (i : Fin 5) : (lq i).val ≠ 0 := by show 1 + i.val ≠ 0; omega

/-! ## Starting a transfer -/

/-- A transfer of exchange `k`, chunk `j`, from `src` to the same-shaped `dst` on the neighbour. -/
theorem wp_send_gen (c n : Dev nD) (k : Fin 5) (j : Fin 8) (hn : n = peer k c) {s : Shape}
    {src : Memref sig .tc .vmem s .bf16} {dst : Memref sig (Dev.tc n : Thread nD τ).2.kind .vmem s .bf16} {hsc : dst.view.ref.isScScratch = false}
    {sS sR : DmaSem sig} (hS : sS = sq k j) (hR : sR = rq k j)
    {hsrc : src.view.WordExact} {hdst : dst.view.WordExact}
    {hsem : DmaTarget.Typed .vmem (.dma sR) (.remote (Dev.tc n : Thread nD τ) dst (.dma sS) hsc)}
    (hN : dst.view.dmaCredit = kAmt k) (q : PosShare TreeShare) (fs : Buf (Elt F) (src.view.loc (c : Thread nD τ)))
    (hsent : sent m k c j = (src.view.loc (c : Thread nD τ) ↦[src.view.set]{q} fs))
    (hroom : room k c j ⊢ (iprop(∃ fd, dst.view.loc (Dev.tc n : Thread nD τ) ↦[dst.view.set]{fullShare} fd) : sProp 𝕄))
    (hland : ∀ fd, (dst.view.loc (Dev.tc n : Thread nD τ) ↦[dst.view.set]{fullShare} dst.view.write (Elt F) fd (src.view.read (Elt F) fs) Finset.univ)
      ⊢ (landed m k (peer k c) j : sProp 𝕄))
    (l : List (Fin 5 × Fin 8)) {α : Type} {Q : α → sProp 𝕄} {K : PUnit → KProg (F := F) α} :
    iprop(ctx m ∗ idle c k j ∗ sent m k c j ∗ room k c j ∗ owesX c ((k, j) :: l))
      ⊢ iprop(((flight c k j ∗ owesX c l) -∗ WP c (K ⟨⟩) Q)
          -∗ WP c (.op (.enqueueDma src (.remote (Dev.tc n : Thread nD τ) dst (.dma sS) hsc) (.dma sR) hsrc hdst hsem) K) Q) := by
  subst hn hS hR
  unfold idle locIdle flight waiting owesX
  iintro ⟨#Hctx, ⟨⟨HaS, HdS⟩, HdR, HaR, HcR⟩, Hs, Hr, ⟨%W, Ho⟩⟩ HK
  ihave HS := (ctx_q m c (sq k j) (sq_ne k j)) $$ Hctx
  ihave HR := (ctx_q m (peer k c) (rq k j) (rq_ne k j)) $$ Hctx
  icases HS with ⟨⟨%κ₁, #HiS⟩, #HrS⟩
  icases HR with ⟨⟨%κ₂, #HiR⟩, #HrR⟩
  ihave Hr := hroom $$ Hr
  icases Hr with ⟨%fd, Hr⟩
  ihave Hs := (Entails.of_eq hsent) $$ Hs
  iapply (Rounds.wp_send_pointsTo 𝒱₀ ER (sched m) (c : Thread nD τ) none (κ₁ := κ₁) (κ₂ := κ₂) (r₁ := 0) (r₂ := 0) (d₁ := 0) (d₂ := 0)
      (fd := fd) (by rw [duties_q m c _ (sq_ne k j)]; exact Finset.mem_singleton_self _)
      (by rw [duties_q m _ _ (rq_ne k j)]; exact Finset.mem_singleton_self _)
      () () (kAmt k) (by exact hN) (by exact amt_sq k j) (by exact amt_rq k j) (owed c l) rfl (W := W)
      (by rw [payload_q, dmaPay_sq, hsent]) (by rw [payload_q, dmaPay_rq]; exact hland fd)) $$ [Hs Hr Ho HdS HdR]
  · isplitr; · iexact HiS
    isplitr; · iexact HiR
    isplitl [Hs]; · iexact Hs
    isplitl [Hr]; · iexact Hr
    isplitl [Ho]; · iexact Ho
    isplitl [HdS]; · iexact HdS
    isplitr; · iexact HrS
    isplitl [HdR]; · iexact HdR
    iexact HrR
  iintro ⟨HcS, Ho⟩
  iapply HK
  isplitl [HaS HcS HaR HcR]
  · isplitl [HaS HcS]
    · isplitl [HaS]; · iexact HaS
      rw [amt_sq]; iexact HcS
    · isplitl [HaR] <;> iassumption
  · iexists W; iexact Ho

/-! ## Starting a local copy -/

theorem wp_local_gen (c : Dev nD) (q : DmaSem sig) (hq : q.val ≠ 0) {s : Shape} {e : EltTy}
    {src : Memref sig .tc .hbm s e} {dst : Memref sig .tc .vmem s e} {q' : DmaSem sig} (hq' : q' = q)
    {hsrc : src.view.WordExact} {hdst : dst.view.WordExact} {hsem : DmaTarget.Typed (nD := nD) .hbm (.dma q') (.here (p := (.tc : Proc τ)) dst)}
    (hN : dst.view.dmaCredit = amt q) (fs : Buf (Elt F) (src.view.loc (c : Thread nD τ))) (fd : Buf (Elt F) (dst.view.loc (c : Thread nD τ)))
    (hpay : iprop((dst.view.loc (c : Thread nD τ) ↦[dst.view.set]{fullShare} dst.view.write (Elt F) fd (src.view.read (Elt F) fs) Finset.univ)
        ∗ (src.view.loc (c : Thread nD τ) ↦[src.view.set]{fullShare} fs)) ⊢ (dmaPay m c q : sProp 𝕄))
    {α : Type} {Q : α → sProp 𝕄} {K : PUnit → KProg (F := F) α} :
    iprop(ctx m ∗ locIdle c q ∗ (src.view.loc (c : Thread nD τ) ↦[src.view.set]{fullShare} fs)
        ∗ (dst.view.loc (c : Thread nD τ) ↦[dst.view.set]{fullShare} fd))
      ⊢ iprop((waiting c q -∗ WP c (K ⟨⟩) Q)
          -∗ WP c (.op (.enqueueDma src (.here dst) (.dma q') hsrc hdst hsem) K) Q) := by
  subst hq'
  unfold locIdle waiting
  iintro ⟨#Hctx, ⟨Ha, Hd⟩, Hs, Hr⟩ HK
  ihave HS := (ctx_q m c q' hq) $$ Hctx
  icases HS with ⟨⟨%κ, #Hi⟩, #Hre⟩
  iapply (Rounds.wp_copy_pointsTo 𝒱₀ ER (sched m) (c : Thread nD τ) none (κ := κ) (r := 0) (d := 0) (fs := fs) (fd := fd)
      (by rw [duties_q m c _ hq]; exact Finset.mem_singleton_self _)
      () (amt q') (by exact hN) (amount_q m c q' 0) (by rw [payload_q]; exact hpay)) $$ [Hs Hr Hd]
  · isplitr; · iexact Hi
    isplitl [Hs]; · iexact Hs
    isplitl [Hr]; · iexact Hr
    isplitl [Hd]; · iexact Hd
    iexact Hre
  iintro Hc
  iapply HK
  isplitl [Ha] <;> iassumption

/-! ## Waiting -/

/-- The wait on a copy's semaphore: what the copy carries arrives, and the semaphore is at zero for good. -/
theorem wp_wait_q (c : Dev nD) (q : DmaSem sig) (hq : q.val ≠ 0) {q' : DmaSem sig} (hq' : q' = q) {sp sp' : Space} {s : Shape} {e : EltTy}
    {src : Memref sig .tc sp s e} {dst : Memref sig .tc sp' s e} {hsrc : src.view.WordExact} {hdst : dst.view.WordExact}
    (hN : dst.view.dmaCredit = amt q) (l : List (Fin 5 × Fin 8)) (hl : ∀ x ∈ l, lv (qCell c q) () < 2 + rank x)
    {α : Type} {Q : α → sProp 𝕄} {K : PUnit → KProg (F := F) α} :
    iprop(ctx m ∗ waiting c q ∗ owesX c l)
      ⊢ iprop(((dmaPay m c q ∗ semVal (qCell c q) 0 ∗ owesX c l) -∗ WP c (K ⟨⟩) Q)
          -∗ WP c (.op (.waitDma2 q' src dst hsrc hdst) K) Q) := by
  subst hq'
  unfold waiting owesX
  iintro ⟨#Hctx, ⟨Ha, Hc⟩, ⟨%W, Ho⟩⟩ HK
  ihave HS := (ctx_q m c q' hq) $$ Hctx
  icases HS with ⟨⟨%κ, #Hi⟩, #Hre⟩
  iapply (Rounds.wp_wait_rest_token 𝒱₀ ER (sched m) (c : Thread nD τ) none (κ := κ)
      (wpE_waitDma2_eq 𝒱₀ (c : Thread nD τ) none Set.univ) (Set.mem_univ _) () (O := owed c l) (W := W) (R := 0) (m := 0) (T := ∅)
      (by rw [Nat.zero_add, expect_q m c q' hq]; exact hN)) $$ [Hc Ho Ha]
  · isplitr; · iexact Hi
    isplitl [Hc]; · rw [hN]; iexact Hc
    isplitl [Ho]; · iexact Ho
    isplitr
    · iapply (mayWait_owed c (.dma q') l hl); iapply (ctx_lev m); iexact Hctx
    iexact Ha
  iintro ⟨Ho, Ha, -, Hp⟩
  ihave Hp := (Entails.of_eq (rest_q m c q' hq)) $$ Hp
  imod (Rounds.cell_close ER (sched m) (Set.mem_univ κ) (fun h => h) (R := 0 + 1) (duties_later m (qCell c q'))) $$ [Ha] with Hz
  · isplitr; · iexact Hi
    iexact Ha
  iapply HK
  isplitl [Hp]; · iexact Hp
  isplitl [Hz]; · iexact Hz
  iexists _; iexact Ho

end Cert.KernelProof

end
-- ==== Proof.Stages.lean ====
/- One lemma per stage of the exchanges: what the stage takes of a chunk and what it leaves of it. -/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The transfers of the kernel -/

section Sends

theorem land_band (c : Dev nD) (o : Band) (fd f : Vec F S1024x1024 .bf16) :
    ((bandM o).view.loc (c : Thread nD τ) ↦[(bandM o).view.set]{fullShare} (bandM o).view.write (Elt F) fd ((bandM o).view.read (Elt F) f) Finset.univ)
      ⊢ (bandPts c o fullShare f : sProp 𝕄) :=
  Entails.of_eq (pointsTo_congr (write_read_same (bandM o).view fd f))

theorem land_half (c : Dev nD) (o : HalfBand) (fd f : Vec F S1024x1024 .bf16) :
    ((halfM o).view.loc (c : Thread nD τ) ↦[(halfM o).view.set]{fullShare} (halfM o).view.write (Elt F) fd ((halfM o).view.read (Elt F) f) Finset.univ)
      ⊢ (halfPts c o f : sProp 𝕄) :=
  Entails.of_eq (pointsTo_congr (write_read_same (halfM o).view fd f))

theorem land_buf (c : Dev nD) (j : Fin 8) (fd : Vec F S2x8x256x128 .bf16) :
    ((bufM 1 j).view.loc (py c : Thread nD τ) ↦[(bufM 1 j).view.set]{fullShare} (bufM 1 j).view.write (Elt F) fd ((bufM 0 j).view.read (Elt F) (YB m c)) Finset.univ)
      ⊢ (landed m 0 (py c) j : sProp 𝕄) := by
  show _ ⊢ bufPts (py c) 1 j (YB m (py c))
  exact Entails.of_eq (pointsTo_congr (write_eq_of (bufM 1 j).view fd (YB m (py c)) _ (YB_sent m c j)))

/-- What lands on the neighbour, seen from the sender. -/
theorem landed_1 (c : Dev nD) (j : Fin 8) : landed m 1 (px c) j = bandPts (px c) (ownBand c j) fullShare (FO m c) := by
  show bandPts (px c) (ownBand (px (px c)) j) fullShare (FO m (px c)) = _
  rw [px_px, FO_px]
theorem landed_2 (c : Dev nD) (j : Fin 8) : landed m 2 (pz c) j = bandPts (pz c) (ownBand c j) fullShare (FO m c) := by
  show bandPts (pz c) (ownBand (pz (pz c)) j) fullShare (FO m (pz c)) = _
  rw [pz_pz, FO_pz]
theorem landed_3 (c : Dev nD) (j : Fin 8) : landed m 3 (pz c) j = halfPts (pz c) (dzHalf c j) (FO m c) := by
  show halfPts (pz c) (dzHalf (pz (pz c)) j) (FO m (pz c)) = _
  rw [pz_pz, FO_pz]
theorem landed_4 (c : Dev nD) (j : Fin 8) : landed m 4 (px c) j = halfPts (px c) (dxHalf c j) (FO m c) := by
  show halfPts (px c) (dxHalf (px (px c)) j) (FO m (px c)) = _
  rw [px_px, FO_px]

theorem credit_buf (i : Fin 2) (j : Fin 8) : (bufM i j).view.dmaCredit = kAmt 0 := by
  unfold kAmt View.dmaCredit; rfl
theorem credit_band1 (o : Band) : (bandM o).view.dmaCredit = kAmt 1 := by
  unfold kAmt View.dmaCredit; rfl
theorem credit_band2 (o : Band) : (bandM o).view.dmaCredit = kAmt 2 := by
  unfold kAmt View.dmaCredit; rfl
theorem credit_half3 (o : HalfBand) : (halfM o).view.dmaCredit = kAmt 3 := by
  unfold kAmt View.dmaCredit; rfl
theorem credit_half4 (o : HalfBand) : (halfM o).view.dmaCredit = kAmt 4 := by
  unfold kAmt View.dmaCredit; rfl

theorem sent_0 (c : Dev nD) (j : Fin 8) : sent m 0 c j = bufPts c 0 j (YB m c) := rfl
theorem sent_1 (c : Dev nD) (j : Fin 8) : sent m 1 c j = bandPts c (ownBand c j) fullShare.left (FO m c) := rfl
theorem sent_2 (c : Dev nD) (j : Fin 8) : sent m 2 c j = bandPts c (ownBand c j) fullShare.right (FO m c) := rfl
theorem sent_3 (c : Dev nD) (j : Fin 8) : sent m 3 c j = halfPts c (dzHalf c j) (FO m c) := rfl
theorem sent_4 (c : Dev nD) (j : Fin 8) : sent m 4 c j = halfPts c (dxHalf c j) (FO m c) := rfl
theorem landed_eq0 (c : Dev nD) (j : Fin 8) : landed m 0 c j = bufPts c 1 j (YB m c) := rfl
theorem landed_eq1 (c : Dev nD) (j : Fin 8) : landed m 1 c j = bandPts c (ownBand (px c) j) fullShare (FO m c) := rfl
theorem landed_eq2 (c : Dev nD) (j : Fin 8) : landed m 2 c j = bandPts c (ownBand (pz c) j) fullShare (FO m c) := rfl
theorem landed_eq3 (c : Dev nD) (j : Fin 8) : landed m 3 c j = halfPts c (dzHalf (pz c) j) (FO m c) := rfl
theorem landed_eq4 (c : Dev nD) (j : Fin 8) : landed m 4 c j = halfPts c (dxHalf (px c) j) (FO m c) := rfl
theorem room_0 (c : Dev nD) (j : Fin 8) : (room 0 c j : sProp 𝕄) = iprop(∃ f, bufPts (F := F) (py c) 1 j f) := rfl
theorem room_1 (c : Dev nD) (j : Fin 8) : (room 1 c j : sProp 𝕄) = iprop(∃ f, bandPts (F := F) (px c) (ownBand c j) fullShare f) := rfl
theorem room_2 (c : Dev nD) (j : Fin 8) : (room 2 c j : sProp 𝕄) = iprop(∃ f, bandPts (F := F) (pz c) (ownBand c j) fullShare f) := rfl
theorem room_3 (c : Dev nD) (j : Fin 8) : (room 3 c j : sProp 𝕄) = iprop(∃ f, halfPts (F := F) (pz c) (dzHalf c j) f) := rfl
theorem room_4 (c : Dev nD) (j : Fin 8) : (room 4 c j : sProp 𝕄) = iprop(∃ f, halfPts (F := F) (px c) (dxHalf c j) f) := rfl

/-- The half product of chunk `j` goes to the `y` neighbour. -/
theorem wp_send0 (c n : Dev nD) (j : Fin 8) (hn : n = py c) (l : List (Fin 5 × Fin 8))
    {α : Type} {Q : α → sProp 𝕄} {K : PUnit → KProg (F := F) α} :
    iprop(ctx m ∗ idle c 0 j ∗ bufPts c 0 j (YB m c) ∗ room 0 c j ∗ owesX c ((0, j) :: l))
      ⊢ iprop(((flight c 0 j ∗ owesX c l) -∗ WP c (K ⟨⟩) Q) -∗ WP c (sendBuf n j >>= K) Q) := by
  subst hn
  rw [← sent_0 m c j]
  unfold sendBuf
  exact wp_send_gen m c (py c) 0 j rfl (src := bufM 0 j) (dst := bufM 1 j) (sndS_eq 0 j) (rcvS_eq 0 j) (credit_buf 1 j) fullShare (YB m c) (by rw [sent_0]; unfold bufPts; rfl)
    (by rw [room_0]; unfold bufPts; exact .rfl) (fun fd => land_buf m c j fd) l (K := K)

/-- The own block goes to the `x` neighbour. -/
theorem wp_send1 (c n : Dev nD) (j : Fin 8) (hn : n = px c) (o : Band) (ho : o = ownBand c j)
    (hw : (bandRect o).WholeWords (EltTy.packing .bf16)) (l : List (Fin 5 × Fin 8))
    {α : Type} {Q : α → sProp 𝕄} {K : PUnit → KProg (F := F) α} :
    iprop(ctx m ∗ idle c 1 j ∗ bandPts c (ownBand c j) fullShare.left (FO m c) ∗ room 1 c j ∗ owesX c ((1, j) :: l))
      ⊢ iprop(((flight c 1 j ∗ owesX c l) -∗ WP c (K ⟨⟩) Q) -∗ WP c (sendBand o hw n 1 j >>= K) Q) := by
  subst hn ho
  rw [← sent_1 m c j]
  unfold sendBand
  exact wp_send_gen m c (px c) 1 j rfl (src := bandM (ownBand c j)) (dst := bandM (ownBand c j)) (sndS_eq 1 j) (rcvS_eq 1 j) (credit_band1 _) fullShare.left (FO m c) (by rw [sent_1]; unfold bandPts; rfl)
    (by rw [room_1]; unfold bandPts; exact .rfl)
    (fun fd => (land_band (px c) (ownBand c j) fd (FO m c)).trans (Entails.of_eq (landed_1 m c j).symm)) l (K := K)

/-- The own block goes to the `z` neighbour. -/
theorem wp_send2 (c n : Dev nD) (j : Fin 8) (hn : n = pz c) (o : Band) (ho : o = ownBand c j)
    (hw : (bandRect o).WholeWords (EltTy.packing .bf16)) (l : List (Fin 5 × Fin 8))
    {α : Type} {Q : α → sProp 𝕄} {K : PUnit → KProg (F := F) α} :
    iprop(ctx m ∗ idle c 2 j ∗ bandPts c (ownBand c j) fullShare.right (FO m c) ∗ room 2 c j ∗ owesX c ((2, j) :: l))
      ⊢ iprop(((flight c 2 j ∗ owesX c l) -∗ WP c (K ⟨⟩) Q) -∗ WP c (sendBand o hw n 2 j >>= K) Q) := by
  subst hn ho
  rw [← sent_2 m c j]
  unfold sendBand
  exact wp_send_gen m c (pz c) 2 j rfl (src := bandM (ownBand c j)) (dst := bandM (ownBand c j)) (sndS_eq 2 j) (rcvS_eq 2 j) (credit_band2 _) fullShare.right (FO m c) (by rw [sent_2]; unfold bandPts; rfl)
    (by rw [room_2]; unfold bandPts; exact .rfl)
    (fun fd => (land_band (pz c) (ownBand c j) fd (FO m c)).trans (Entails.of_eq (landed_2 m c j).symm)) l (K := K)

/-- The upper half of the `x` neighbour's block goes to the `z` neighbour. -/
theorem wp_send3 (c n : Dev nD) (j : Fin 8) (hn : n = pz c) (o : HalfBand) (ho : o = dzHalf c j)
    (hw : (halfRect o).WholeWords (EltTy.packing .bf16)) (l : List (Fin 5 × Fin 8))
    {α : Type} {Q : α → sProp 𝕄} {K : PUnit → KProg (F := F) α} :
    iprop(ctx m ∗ idle c 3 j ∗ halfPts c (dzHalf c j) (FO m c) ∗ room 3 c j ∗ owesX c ((3, j) :: l))
      ⊢ iprop(((flight c 3 j ∗ owesX c l) -∗ WP c (K ⟨⟩) Q) -∗ WP c (sendHalf o hw n 3 j >>= K) Q) := by
  subst hn ho
  rw [← sent_3 m c j]
  unfold sendHalf
  exact wp_send_gen m c (pz c) 3 j rfl (src := halfM (dzHalf c j)) (dst := halfM (dzHalf c j)) (sndS_eq 3 j) (rcvS_eq 3 j) (credit_half3 _) fullShare (FO m c) (by rw [sent_3]; unfold halfPts; rfl)
    (by rw [room_3]; unfold halfPts; exact .rfl)
    (fun fd => (land_half (pz c) (dzHalf c j) fd (FO m c)).trans (Entails.of_eq (landed_3 m c j).symm)) l (K := K)

/-- The lower half of the `z` neighbour's block goes to the `x` neighbour. -/
theorem wp_send4 (c n : Dev nD) (j : Fin 8) (hn : n = px c) (o : HalfBand) (ho : o = dxHalf c j)
    (hw : (halfRect o).WholeWords (EltTy.packing .bf16)) (l : List (Fin 5 × Fin 8))
    {α : Type} {Q : α → sProp 𝕄} {K : PUnit → KProg (F := F) α} :
    iprop(ctx m ∗ idle c 4 j ∗ halfPts c (dxHalf c j) (FO m c) ∗ room 4 c j ∗ owesX c ((4, j) :: l))
      ⊢ iprop(((flight c 4 j ∗ owesX c l) -∗ WP c (K ⟨⟩) Q) -∗ WP c (sendHalf o hw n 4 j >>= K) Q) := by
  subst hn ho
  rw [← sent_4 m c j]
  unfold sendHalf
  exact wp_send_gen m c (px c) 4 j rfl (src := halfM (dxHalf c j)) (dst := halfM (dxHalf c j)) (sndS_eq 4 j) (rcvS_eq 4 j) (credit_half4 _) fullShare (FO m c) (by rw [sent_4]; unfold halfPts; rfl)
    (by rw [room_4]; unfold halfPts; exact .rfl)
    (fun fd => (land_half (px c) (dxHalf c j) fd (FO m c)).trans (Entails.of_eq (landed_4 m c j).symm)) l (K := K)

/-- The wait for the send of exchange `k`, chunk `j`: its source comes back. -/
theorem wp_wait_s (c : Dev nD) (k : Fin 5) (j : Fin 8) {sp sp' : Space} {s : Shape} {e : EltTy}
    {src : Memref sig .tc sp s e} {dst : Memref sig .tc sp' s e} {hsrc : src.view.WordExact} {hdst : dst.view.WordExact}
    (hN : dst.view.dmaCredit = kAmt k) (l : List (Fin 5 × Fin 8))
    {α : Type} {Q : α → sProp 𝕄} {K : PUnit → KProg (F := F) α} :
    iprop(ctx m ∗ waiting c (sq k j) ∗ owesX c l)
      ⊢ iprop(((sent m k c j ∗ semVal (qCell c (sq k j)) 0 ∗ owesX c l) -∗ WP c (K ⟨⟩) Q)
          -∗ WP c (Prog.lift (.waitDma2 (sndS k j) src dst hsrc hdst) >>= K) Q) := by
  have h := wp_wait_q m c (sq k j) (sq_ne k j) (sndS_eq k j) (hsrc := hsrc) (hdst := hdst) (hN.trans (amt_sq k j).symm) l
    (fun x _ => by
      rw [lv_low c _ (by show 6 + 8 * k.val + j.val < 46; have := k.isLt; have := j.isLt; omega)]; omega) (Q := Q) (K := K)
  rw [dmaPay_sq] at h
  exact h

/-- The wait for what the neighbour sends in exchange `k`, chunk `j`. -/
theorem wp_wait_r (c : Dev nD) (k : Fin 5) (j : Fin 8) {sp sp' : Space} {s : Shape} {e : EltTy}
    {src : Memref sig .tc sp s e} {dst : Memref sig .tc sp' s e} {hsrc : src.view.WordExact} {hdst : dst.view.WordExact}
    (hN : dst.view.dmaCredit = kAmt k) (l : List (Fin 5 × Fin 8)) (hl : ∀ x ∈ l, rank (k, j) < rank x)
    {α : Type} {Q : α → sProp 𝕄} {K : PUnit → KProg (F := F) α} :
    iprop(ctx m ∗ waiting c (rq k j) ∗ owesX c l)
      ⊢ iprop(((landed m k c j ∗ semVal (qCell c (rq k j)) 0 ∗ owesX c l) -∗ WP c (K ⟨⟩) Q)
          -∗ WP c (Prog.lift (.waitDma2 (rcvS k j) src dst hsrc hdst) >>= K) Q) := by
  have h := wp_wait_q m c (rq k j) (rq_ne k j) (rcvS_eq k j) (hsrc := hsrc) (hdst := hdst) (hN.trans (amt_rq k j).symm) l
    (fun x hx => by rw [lv_rq]; have := hl x hx; omega) (Q := Q) (K := K)
  rw [dmaPay_rq] at h
  exact h

end Sends

/-! ## Splitting and joining the blocks -/

/-- A band is its two half shares. -/
theorem band_shares (c : Dev nD) (o : Band) (f : Vec F S1024x1024 .bf16) :
    (bandPts c o fullShare f : sProp 𝕄) ⊣⊢ iprop(bandPts c o fullShare.left f ∗ bandPts c o fullShare.right f) :=
  pointsTo_share (PosShare.mem_left_op_right fullShare)

/-- The `x` neighbour's block in its two halves. -/
theorem band_px (c : Dev nD) (j : Fin 8) (f : Vec F S1024x1024 .bf16) :
    (bandPts c (ownBand (px c) j) fullShare f : sProp 𝕄) ⊣⊢ iprop(halfPts c (dzHalf c j) f ∗ halfPts c (dxHalf (pz (px c)) j) f) := by
  have h := pointsTo_union (Ix := Unit) (Lvl := ℕ) (U := UU) (Name := ℕ) (Val := Elt F) (ℓ := outM.view.loc (c : Thread nD τ)) (q := fullShare) (f := f) (own_px_disjoint c j)
  rw [← own_px c j] at h
  exact h
/-- The `z` neighbour's block in its two halves. -/
theorem band_pz (c : Dev nD) (j : Fin 8) (f : Vec F S1024x1024 .bf16) :
    (bandPts c (ownBand (pz c) j) fullShare f : sProp 𝕄) ⊣⊢ iprop(halfPts c (dxHalf c j) f ∗ halfPts c (dzHalf (pz (px c)) j) f) := by
  have h := pointsTo_union (Ix := Unit) (Lvl := ℕ) (U := UU) (Name := ℕ) (Val := Elt F) (ℓ := outM.view.loc (c : Thread nD τ)) (q := fullShare) (f := f) (own_pz_disjoint c j)
  rw [← own_pz c j] at h
  exact h

/-! ## What device `c` holds of chunk `j` between the stages -/

/-- The last two exchanges not begun. -/
def tail (c : Dev nD) (j : Fin 8) : sProp 𝕄 := iprop(idle c 3 j ∗ idle c 4 j ∗ room 3 c j ∗ room 4 c j)
/-- The exchanges after the first not begun. -/
def later (c : Dev nD) (j : Fin 8) : sProp 𝕄 :=
  iprop(idle c 1 j ∗ idle c 2 j ∗ room 1 c j ∗ room 2 c j ∗ (∃ f, bandPts c (ownBand c j) fullShare f) ∗ tail c j)
/-- Before the chunk is begun. -/
def st0 (c : Dev nD) (j : Fin 8) : sProp 𝕄 := iprop(idle c 0 j ∗ (∃ f, bufPts c 0 j f) ∗ room 0 c j ∗ later c j)
/-- After its half product is sent. -/
def stA (c : Dev nD) (j : Fin 8) : sProp 𝕄 := iprop(flight c 0 j ∗ later c j)
/-- The exchange buffer's places of the chunk after the first exchange. -/
def bufs (c : Dev nD) (j : Fin 8) : sProp 𝕄 := iprop(over c 0 j ∗ bufPts c 0 j (YB m c) ∗ bufPts c 1 j (YB m c))
/-- After the sum is sent to both neighbours. -/
def stB (c : Dev nD) (j : Fin 8) : sProp 𝕄 := iprop(bufs m c j ∗ flight c 1 j ∗ flight c 2 j ∗ tail c j)
/-- What stays on the device when the halves are passed on. -/
def kept (c : Dev nD) (j : Fin 8) : sProp 𝕄 :=
  iprop(over c 1 j ∗ over c 2 j ∗ bandPts c (ownBand c j) fullShare (FO m c)
    ∗ halfPts c (dxHalf (pz (px c)) j) (FO m c) ∗ halfPts c (dzHalf (pz (px c)) j) (FO m c))
/-- After the halves are passed on. -/
def stC (c : Dev nD) (j : Fin 8) : sProp 𝕄 := iprop(bufs m c j ∗ kept m c j ∗ flight c 3 j ∗ flight c 4 j)
/-- When everything of the chunk has arrived. -/
def stD (c : Dev nD) (j : Fin 8) : sProp 𝕄 :=
  iprop(bufs m c j ∗ kept m c j ∗ over c 3 j ∗ over c 4 j ∗ halfPts c (dzHalf c j) (FO m c) ∗ halfPts c (dxHalf c j) (FO m c)
    ∗ halfPts c (dzHalf (pz c) j) (FO m c) ∗ halfPts c (dxHalf (px c) j) (FO m c))

section Stages

/-- The two passed-on halves arrive. -/
theorem stageD_spec (c : Dev nD) (j : Fin 8) (oz : HalfBand) (hz : (halfRect oz).WholeWords (EltTy.packing .bf16))
    (ox : HalfBand) (hx : (halfRect ox).WholeWords (EltTy.packing .bf16)) (l : List (Fin 5 × Fin 8))
    (hl3 : ∀ x ∈ l, rank (3, j) < rank x) (hl4 : ∀ x ∈ l, rank (4, j) < rank x)
    {α : Type} {Q : α → sProp 𝕄} {K : PUnit → KProg (F := F) α} :
    iprop(ctx m ∗ stC m c j ∗ owesX c l)
      ⊢ iprop(((stD m c j ∗ owesX c l) -∗ WP c (K ⟨⟩) Q) -∗ WP c (stageD j oz hz ox hx >>= K) Q) := by
  unfold stC stD flight over
  iintro ⟨#Hctx, ⟨Hb, Hk, ⟨Hs3, Hr3⟩, Hs4, Hr4⟩, Ho⟩ HK
  iapply (wp_wait_s m c 3 j (src := halfM oz) (dst := halfM oz) (K := fun _ => _) (credit_half3 oz) l) $$ [Hs3 Ho]
  · isplitr; · iexact Hctx
    isplitl [Hs3] <;> iassumption
  iintro ⟨Hp3, Hz3, Ho⟩
  iapply (wp_wait_r m c 3 j (src := halfM oz) (dst := halfM oz) (K := fun _ => _) (credit_half3 oz) l hl3) $$ [Hr3 Ho]
  · isplitr; · iexact Hctx
    isplitl [Hr3] <;> iassumption
  iintro ⟨Hq3, Hy3, Ho⟩
  iapply (wp_wait_s m c 4 j (src := halfM ox) (dst := halfM ox) (K := fun _ => _) (credit_half4 ox) l) $$ [Hs4 Ho]
  · isplitr; · iexact Hctx
    isplitl [Hs4] <;> iassumption
  iintro ⟨Hp4, Hz4, Ho⟩
  iapply (wp_wait_r m c 4 j (src := halfM ox) (dst := halfM ox) (K := K) (credit_half4 ox) l hl4) $$ [Hr4 Ho]
  · isplitr; · iexact Hctx
    isplitl [Hr4] <;> iassumption
  iintro ⟨Hq4, Hy4, Ho⟩
  iapply HK
  isplitr [Ho]
  · isplitl [Hb]; · iexact Hb
    isplitl [Hk]; · iexact Hk
    isplitl [Hz3 Hy3]; · isplitl [Hz3] <;> iassumption
    isplitl [Hz4 Hy4]; · isplitl [Hz4] <;> iassumption
    isplitl [Hp3]; · iapply (Entails.of_eq (sent_3 m c j)) $$ Hp3
    isplitl [Hp4]; · iapply (Entails.of_eq (sent_4 m c j)) $$ Hp4
    isplitl [Hq3]; · iapply (Entails.of_eq (landed_eq3 m c j)) $$ Hq3
    iapply (Entails.of_eq (landed_eq4 m c j)) $$ Hq4
  · iexact Ho

/-- The blocks of the `x` and of the `z` neighbour arrive, and half of each is passed on. -/
theorem stageC_spec (c : Dev nD) (j : Fin 8) (o : Band) (hw : (bandRect o).WholeWords (EltTy.packing .bf16))
    (oz : HalfBand) (hz : (halfRect oz).WholeWords (EltTy.packing .bf16)) (ox : HalfBand) (hx : (halfRect ox).WholeWords (EltTy.packing .bf16))
    (nz nx : Dev nD) (hnz : nz = pz c) (hnx : nx = px c) (hoz : oz = dzHalf c j) (hox : ox = dxHalf c j) (l : List (Fin 5 × Fin 8))
    (hl1 : ∀ x ∈ (3, j) :: (4, j) :: l, rank (1, j) < rank x) (hl2 : ∀ x ∈ (4, j) :: l, rank (2, j) < rank x)
    {α : Type} {Q : α → sProp 𝕄} {K : PUnit → KProg (F := F) α} :
    iprop(ctx m ∗ stB m c j ∗ owesX c ((3, j) :: (4, j) :: l))
      ⊢ iprop(((stC m c j ∗ owesX c l) -∗ WP c (K ⟨⟩) Q) -∗ WP c (stageC j o hw oz hz ox hx nz nx >>= K) Q) := by
  unfold stB stC kept tail over
  rw [show ∀ k, (flight c k j : sProp 𝕄) = iprop(waiting c (sq k j) ∗ waiting c (rq k j)) from fun _ => rfl]
  rw [show ∀ k, (flight c k j : sProp 𝕄) = iprop(waiting c (sq k j) ∗ waiting c (rq k j)) from fun _ => rfl]
  iintro ⟨#Hctx, ⟨Hb, ⟨Hs1, Hr1⟩, ⟨Hs2, Hr2⟩, Hi3, Hi4, Hm3, Hm4⟩, Ho⟩ HK
  iapply (wp_wait_s m c 1 j (src := bandM o) (dst := bandM o) (K := fun _ => _) (credit_band1 o) _) $$ [Hs1 Ho]
  · isplitr; · iexact Hctx
    isplitl [Hs1] <;> iassumption
  iintro ⟨Hp1, Hz1, Ho⟩
  iapply (wp_wait_r m c 1 j (src := bandM o) (dst := bandM o) (K := fun _ => _) (credit_band1 o) _ hl1) $$ [Hr1 Ho]
  · isplitr; · iexact Hctx
    isplitl [Hr1] <;> iassumption
  iintro ⟨Hq1, Hy1, Ho⟩
  ihave Hq1 := ((Entails.of_eq (landed_eq1 m c j)).trans (band_px c j (FO m c)).1) $$ Hq1
  icases Hq1 with ⟨Hq1, Hk1⟩
  iapply (wp_send3 m c nz j hnz oz hoz hz _ (K := fun _ => _)) $$ [Hi3 Hq1 Hm3 Ho]
  · isplitr; · iexact Hctx
    isplitl [Hi3]; · iexact Hi3
    isplitl [Hq1]; · iexact Hq1
    isplitl [Hm3] <;> iassumption
  iintro ⟨Hf3, Ho⟩
  iapply (wp_wait_s m c 2 j (src := bandM o) (dst := bandM o) (K := fun _ => _) (credit_band2 o) _) $$ [Hs2 Ho]
  · isplitr; · iexact Hctx
    isplitl [Hs2] <;> iassumption
  iintro ⟨Hp2, Hz2, Ho⟩
  iapply (wp_wait_r m c 2 j (src := bandM o) (dst := bandM o) (K := fun _ => _) (credit_band2 o) _ hl2) $$ [Hr2 Ho]
  · isplitr; · iexact Hctx
    isplitl [Hr2] <;> iassumption
  iintro ⟨Hq2, Hy2, Ho⟩
  ihave Hq2 := ((Entails.of_eq (landed_eq2 m c j)).trans (band_pz c j (FO m c)).1) $$ Hq2
  icases Hq2 with ⟨Hq2, Hk2⟩
  iapply (wp_send4 m c nx j hnx ox hox hx _ (K := K)) $$ [Hi4 Hq2 Hm4 Ho]
  · isplitr; · iexact Hctx
    isplitl [Hi4]; · iexact Hi4
    isplitl [Hq2]; · iexact Hq2
    isplitl [Hm4] <;> iassumption
  iintro ⟨Hf4, Ho⟩
  iapply HK
  isplitr [Ho]
  · isplitl [Hb]; · iexact Hb
    isplitr [Hf3 Hf4]
    · isplitl [Hz1 Hy1]; · isplitl [Hz1] <;> iassumption
      isplitl [Hz2 Hy2]; · isplitl [Hz2] <;> iassumption
      isplitl [Hp1 Hp2]
      · iapply (band_shares c (ownBand c j) (FO m c)).2
        isplitl [Hp1]
        · iapply (Entails.of_eq (sent_1 m c j)) $$ Hp1
        · iapply (Entails.of_eq (sent_2 m c j)) $$ Hp2
      isplitl [Hk1] <;> iassumption
    isplitl [Hf3] <;> iassumption
  · iexact Ho

/-! ### Loads and stores of the pieces -/

theorem buf_sub (i : Fin 2) (j : Fin 8) : bufsM.view.setOn (bufRect i j).toLoadRect.set ⊆ (bufM i j).view.set :=
  Finset.subset_of_eq ((View.set_slice _ _).symm.trans (View.set_reshape _ _).symm)
theorem wf_sub (g : Fin 4) : wf.view.setOn (wfRect g).toLoadRect.set ⊆ (wfM g).view.set :=
  Finset.subset_of_eq ((View.set_slice _ _).symm.trans (View.set_reshape _ _).symm)
theorem band_sub (o : Band) : outM.view.setOn (bandRect o).toLoadRect.set ⊆ (bandM o).view.set :=
  Finset.subset_of_eq (View.set_slice _ _).symm

theorem wp_loadBuf (c : Dev nD) (i : Fin 2) (j : Fin 8) (f : Vec F S2x8x256x128 .bf16)
    {α : Type} {Q : α → sProp 𝕄} {K : Vec F S1x1x256x128 .bf16 → KProg (F := F) α} :
    (bufPts c i j f : sProp 𝕄)
      ⊢ iprop((bufPts c i j f -∗ WP c (K (bufsM.view.readAt (Elt F) (bufRect i j).toLoadRect f)) Q) -∗ WP c (loadBuf i j >>= K) Q) := by
  unfold bufPts loadBuf
  exact wp_load 𝒱₀ (c : Thread nD τ) none Set.univ (m := bufsM) (r := (bufRect i j).toLoadRect) (hl := View.loadsAt_vmem h_S1x1x256x128) (S := (bufM i j).view.set) (k := K) (buf_sub i j)

/-- The chunk of the half product is stored in the exchange buffer. -/
theorem wp_storeBuf (c : Dev nD) (j : Fin 8) (f : Vec F S2x8x256x128 .bf16) (v : FVec F S1x1x256x128 .bf16) (hv : v = T m c j)
    {α : Type} {Q : α → sProp 𝕄} {K : PUnit → KProg (F := F) α} :
    (bufPts c 0 j f : sProp 𝕄)
      ⊢ iprop((bufPts c 0 j (YB m c) -∗ WP c (K ⟨⟩) Q) -∗ WP c (storeBuf j v >>= K) Q) := by
  have hset : (bufM 0 j).view.set = (bufsM.access (bufRect 0 j)).set := View.set_reshape _ _
  have hc : ((bufM 0 j).view.loc (c : Thread nD τ) ↦[(bufM 0 j).view.set]{fullShare} ((bufsM.access (bufRect 0 j)).write (Elt F) f v Finset.univ))
      = (bufPts c 0 j (YB m c) : sProp 𝕄) := by
    refine pointsTo_congr fun i hi => ?_
    refine write_eq_of (bufsM.access (bufRect 0 j)) f (YB m c) v (fun x => ?_) i (hset ▸ hi)
    have h := congrFun (read_YB m c 0 j) x
    rw [if_pos (by decide)] at h
    rw [hv]; exact h.symm
  rw [← hc]
  unfold bufPts storeBuf
  exact wp_store 𝒱₀ (c : Thread nD τ) none Set.univ (m := bufsM) (r := bufRect 0 j) (Mk := Finset.univ) (k := K)
    (Finset.subset_of_eq hset.symm)

theorem wp_loadBand (c : Dev nD) (o : Band) (f : Vec F S1024x1024 .bf16)
    {α : Type} {Q : α → sProp 𝕄} {K : Vec F S256x128 .bf16 → KProg (F := F) α} :
    (bandPts c o fullShare f : sProp 𝕄)
      ⊢ iprop((bandPts c o fullShare f -∗ WP c (K (outM.view.readAt (Elt F) (bandRect o).toLoadRect f)) Q)
        -∗ WP c (Prog.lift (.load outM (bandRect o).toLoadRect (View.loadsAt_vmem h_S256x128)) >>= K) Q) := by
  unfold bandPts
  exact wp_load 𝒱₀ (c : Thread nD τ) none Set.univ (m := outM) (r := (bandRect o).toLoadRect) (hl := View.loadsAt_vmem h_S256x128) (S := (bandM o).view.set) (k := K) (band_sub o)

/-- The sum is stored in the own block of the result. -/
theorem wp_storeBand (c : Dev nD) (j : Fin 8) (f : Vec F S1024x1024 .bf16) (v : FVec F S256x128 .bf16)
    (hp : (bandRect (ownBand c j)).PackedRows (EltTy.packing .bf16)) (hv : v = O m c j)
    {α : Type} {Q : α → sProp 𝕄} {K : PUnit → KProg (F := F) α} :
    (bandPts c (ownBand c j) fullShare f : sProp 𝕄)
      ⊢ iprop((bandPts c (ownBand c j) fullShare (FO m c) -∗ WP c (K ⟨⟩) Q)
        -∗ WP c (Prog.lift (.store outM (bandRect (ownBand c j)) v Finset.univ (View.stores_vmem h_S256x128 ((Memref.isWhole_whole cc0_stg0_0).storeExact_slice rfl _ hp) (fun _ => rfl)) (.inl rfl)) >>= K) Q) := by
  have hc : ((bandM (ownBand c j)).view.loc (c : Thread nD τ) ↦[(bandM (ownBand c j)).view.set]{fullShare}
      ((bandM (ownBand c j)).view.write (Elt F) f v Finset.univ))
      = (bandPts c (ownBand c j) fullShare (FO m c) : sProp 𝕄) :=
    pointsTo_congr (write_eq_of (bandM (ownBand c j)).view f (FO m c) v (fun x => by rw [hv]; exact (read_FO m c j x).symm))
  rw [← hc]
  unfold bandPts
  exact wp_store 𝒱₀ (c : Thread nD τ) none Set.univ (m := outM) (r := bandRect (ownBand c j)) (Mk := Finset.univ) (k := K)
    (Finset.subset_of_eq rfl)

/-- Chunk `j` from the `y` neighbour arrives; the sum is stored and sent to the `x` and `z` neighbours. -/
theorem stageB_spec (c : Dev nD) (j : Fin 8) (p : FVec F S256x128 .f32) (hpv : p = P m c j) (o : Band) (hp : (bandRect o).PackedRows (EltTy.packing .bf16))
    (o' : Band) (hw : (bandRect o').WholeWords (EltTy.packing .bf16)) (nx nz : Dev nD)
    (ho : o = ownBand c j) (ho' : o' = ownBand c j) (hnx : nx = px c) (hnz : nz = pz c) (l : List (Fin 5 × Fin 8))
    (hl0 : ∀ x ∈ (1, j) :: (2, j) :: l, rank (0, j) < rank x)
    {α : Type} {Q : α → sProp 𝕄} {K : PUnit → KProg (F := F) α} :
    iprop(ctx m ∗ stA c j ∗ owesX c ((1, j) :: (2, j) :: l))
      ⊢ iprop(((stB m c j ∗ owesX c l) -∗ WP c (K ⟨⟩) Q) -∗ WP c (stageB j p o hp o' hw nx nz >>= K) Q) := by
  subst hpv ho
  unfold stA stB later bufs over
  rw [show (flight c 0 j : sProp 𝕄) = iprop(waiting c (sq 0 j) ∗ waiting c (rq 0 j)) from rfl]
  iintro ⟨#Hctx, ⟨⟨Hs0, Hr0⟩, Hi1, Hi2, Hm1, Hm2, ⟨%f, Hown⟩, Ht⟩, Ho⟩ HK
  iapply (wp_wait_s m c 0 j (src := bufM 1 j) (dst := bufM 0 j) (K := fun _ => _) (credit_buf 0 j) _) $$ [Hs0 Ho]
  · isplitr; · iexact Hctx
    isplitl [Hs0] <;> iassumption
  iintro ⟨Hp0, Hz0, Ho⟩
  iapply (wp_wait_r m c 0 j (src := bufM 0 j) (dst := bufM 1 j) (K := fun _ => _) (credit_buf 1 j) _ hl0) $$ [Hr0 Ho]
  · isplitr; · iexact Hctx
    isplitl [Hr0] <;> iassumption
  iintro ⟨Hq0, Hy0, Ho⟩
  ihave Hp0 := (Entails.of_eq (sent_0 m c j)) $$ Hp0
  ihave Hq0 := (Entails.of_eq (landed_eq0 m c j)) $$ Hq0
  iapply (wp_loadBuf c 1 j (YB m c) (K := fun v => _)) $$ Hq0
  iintro Hq0
  rw [read_YB, if_neg (by decide)]
  iapply (wp_loadBand c (ownBand c j) f (K := fun _ => _)) $$ Hown
  iintro Hown
  iapply (wp_storeBand m c j f (k0_pay17 (P m c j) (T m (py c) j)) hp rfl (K := fun _ => _)) $$ Hown
  iintro Hown
  ihave Hown := (band_shares c (ownBand c j) (FO m c)).1 $$ Hown
  icases Hown with ⟨Hl, Hr⟩
  iapply (wp_send1 m c nx j hnx o' ho' hw _ (K := fun _ => _)) $$ [Hi1 Hl Hm1 Ho]
  · isplitr; · iexact Hctx
    isplitl [Hi1]; · iexact Hi1
    isplitl [Hl]; · iexact Hl
    isplitl [Hm1] <;> iassumption
  iintro ⟨Hf1, Ho⟩
  iapply (wp_send2 m c nz j hnz o' ho' hw _ (K := K)) $$ [Hi2 Hr Hm2 Ho]
  · isplitr; · iexact Hctx
    isplitl [Hi2]; · iexact Hi2
    isplitl [Hr]; · iexact Hr
    isplitl [Hm2] <;> iassumption
  iintro ⟨Hf2, Ho⟩
  iapply HK
  isplitr [Ho]
  · isplitl [Hz0 Hy0 Hp0 Hq0]
    · isplitl [Hz0 Hy0]; · isplitl [Hz0] <;> iassumption
      isplitl [Hp0] <;> iassumption
    isplitl [Hf1]; · iexact Hf1
    isplitl [Hf2] <;> iassumption
  · iexact Ho

end Stages

end Cert.KernelProof

end
-- ==== Proof.Start.lean ====
/- The stage of a product with its two sends, and the start of the kernel: the neighbours' handshake, the local copies
   and the rounding of the rows this device multiplies. -/
module

public import proofs.«01_k».proof.Proof.Stages

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rounded rows of `dy` -/

/-- The scratch of the rounded rows. -/
def dybPts (c : Dev nD) (f : Vec F S256x4096 .bf16) : sProp 𝕄 :=
  dyb.view.loc (c : Thread nD τ) ↦[Finset.univ]{fullShare} f

theorem zero_off : (![0, 0] : Fin 2 → ℕ) = fun _ => 0 := funext fun a => by fin_cases a <;> rfl

theorem read_dyb (f : Vec F S256x4096 .bf16) : dyb.view.readAt (Elt F) fullRect.toLoadRect f = f :=
  Memref.readAt_unit_zero (Elt F) cc0_scratch1 zero_off _ f
theorem read_dyf (f : Vec F S256x4096 .f32) : dyf.view.readAt (Elt F) fullRect.toLoadRect f = f :=
  Memref.readAt_unit_zero (Elt F) cc0_scratch0 zero_off _ f
theorem write_dyb (f w : Vec F S256x4096 .bf16) : (dyb.access fullRect).write (Elt F) f w Finset.univ = w :=
  Memref.write_access_unit_zero_univ (Elt F) cc0_scratch1 zero_off _ f w

theorem wp_loadDyb (c : Dev nD) (f : Vec F S256x4096 .bf16)
    {α : Type} {Q : α → sProp 𝕄} {K : Vec F S256x4096 .bf16 → KProg (F := F) α} :
    (dybPts c f : sProp 𝕄)
      ⊢ iprop((dybPts c f -∗ WP c (K f) Q) -∗ WP c (Prog.lift (.load dyb fullRect.toLoadRect (View.loadsAt_vmem h_S256x4096)) >>= K) Q) := by
  rw [show K f = K (dyb.view.readAt (Elt F) fullRect.toLoadRect f) from by rw [read_dyb]]
  unfold dybPts
  exact wp_load 𝒱₀ (c : Thread nD τ) none Set.univ (m := dyb) (r := fullRect.toLoadRect) (hl := View.loadsAt_vmem h_S256x4096)
    (S := Finset.univ) (k := K) (Finset.subset_univ _)

theorem dyf_set : dyf.view.set = Finset.univ := View.set_whole _

theorem wp_loadDyf (c : Dev nD) (f : Vec F S256x4096 .f32)
    {α : Type} {Q : α → sProp 𝕄} {K : Vec F S256x4096 .f32 → KProg (F := F) α} :
    (dyfPts c f : sProp 𝕄)
      ⊢ iprop((dyfPts c f -∗ WP c (K f) Q) -∗ WP c (Prog.lift (.load dyf fullRect.toLoadRect (View.loadsAt_vmem h_S256x4096)) >>= K) Q) := by
  rw [show K f = K (dyf.view.readAt (Elt F) fullRect.toLoadRect f) from by rw [read_dyf]]
  unfold dyfPts
  exact wp_load 𝒱₀ (c : Thread nD τ) none Set.univ (m := dyf) (r := fullRect.toLoadRect) (hl := View.loadsAt_vmem h_S256x4096)
    (S := dyf.view.set) (k := K) (by rw [dyf_set]; exact Finset.subset_univ _)

theorem wp_storeDyb (c : Dev nD) (f w : Vec F S256x4096 .bf16) {hx : (dyb.access fullRect).Stores Finset.univ} {hm}
    {α : Type} {Q : α → sProp 𝕄} {K : PUnit → KProg (F := F) α} :
    (dybPts c f : sProp 𝕄)
      ⊢ iprop((dybPts c w -∗ WP c (K ⟨⟩) Q) -∗ WP c (Prog.lift (.store dyb fullRect w Finset.univ hx hm) >>= K) Q) := by
  rw [show (dybPts c w : sProp 𝕄) = dybPts c ((dyb.access fullRect).write (Elt F) f w Finset.univ) from by rw [write_dyb]]
  unfold dybPts
  exact wp_store 𝒱₀ (c : Thread nD τ) none Set.univ (m := dyb) (r := fullRect) (Mk := Finset.univ) (k := K) (Finset.subset_univ _)

theorem wp_loadWf (c : Dev nD) (g : Fin 4)
    {α : Type} {Q : α → sProp 𝕄} {K : Vec F S1x256x4096 .f32 → KProg (F := F) α} :
    (wfPts c g (WF m c) : sProp 𝕄)
      ⊢ iprop((wfPts c g (WF m c) -∗ WP c (K (WQ m c g)) Q) -∗ WP c (Prog.lift (.load wf (wfRect g).toLoadRect (View.loadsAt_vmem h_S1x256x4096)) >>= K) Q) := by
  unfold wfPts WQ
  exact wp_load 𝒱₀ (c : Thread nD τ) none Set.univ (m := wf) (r := (wfRect g).toLoadRect) (hl := View.loadsAt_vmem h_S1x256x4096)
    (S := (wfM g).view.set) (k := K) (wf_sub g)

/-! ## A product and its two sends -/

theorem quarter_of (g : Fin 4) (j : Fin 8) (h : j.val = 2 * g.val ∨ j.val = 2 * g.val + 1) : quarter j = g :=
  Fin.ext (by show j.val / 2 = g.val; omega)
theorem P_even (c : Dev nD) (g : Fin 4) (j : Fin 8) (h : j.val = 2 * g.val) : P m c j = k0_pay3 (WQ m c g) (DYB m c) := by
  unfold P; rw [if_pos (by omega), quarter_of g j (.inl h)]
theorem P_odd (c : Dev nD) (g : Fin 4) (j : Fin 8) (h : j.val = 2 * g.val + 1) : P m c j = k0_pay5 (k0_pay2 (WQ m c g) (DYB m c)) := by
  unfold P; rw [if_neg (by omega), quarter_of g j (.inr h)]
theorem T_even (c : Dev nD) (g : Fin 4) (j : Fin 8) (h : j.val = 2 * g.val) : T m c j = k0_pay4 (WQ m c g) (DYB m c) := by
  unfold T; rw [if_pos (by omega), quarter_of g j (.inl h)]
theorem T_odd (c : Dev nD) (g : Fin 4) (j : Fin 8) (h : j.val = 2 * g.val + 1) : T m c j = k0_pay6 (k0_pay2 (WQ m c g) (DYB m c)) := by
  unfold T; rw [if_neg (by omega), quarter_of g j (.inr h)]

theorem credit_w (g : Fin 4) : (wfM g).view.dmaCredit = amt (lq g.succ) := by
  rw [amt_w]

/-- A quarter of the weights arrived, and its semaphore at zero. -/
def wDone (c : Dev nD) (g : Fin 4) : sProp 𝕄 :=
  iprop(wfPts c g (WF m c) ∗ wPts c g (wArg m c) ∗ semVal (qCell c (lq g.succ)) 0)

/-- One quarter's product: its two chunks are sent to the `y` neighbour, and it yields the two halves kept here. -/
theorem stageA_spec (c : Dev nD) (g : Fin 4) (j0 j1 : Fin 8) (h0 : j0.val = 2 * g.val) (h1 : j1.val = 2 * g.val + 1)
    (n0 n1 : Dev nD) (hn0 : n0 = py c) (hn1 : n1 = py c) (l : List (Fin 5 × Fin 8))
    {α : Type} {Q : α → sProp 𝕄} {K : FVec F S256x128 .f32 × FVec F S256x128 .f32 → KProg (F := F) α} :
    iprop(ctx m ∗ waiting c (lq g.succ) ∗ dybPts c (DYB m c) ∗ st0 c j0 ∗ st0 c j1 ∗ owesX c ((0, j0) :: (0, j1) :: l))
      ⊢ iprop(((wDone m c g ∗ dybPts c (DYB m c) ∗ stA c j0 ∗ stA c j1 ∗ owesX c l) -∗ WP c (K (P m c j0, P m c j1)) Q)
        -∗ WP c (stageA g j0 j1 n0 n1 >>= K) Q) := by
  unfold st0 stA wDone
  rw [P_even m c g j0 h0, P_odd m c g j1 h1]
  iintro ⟨#Hctx, Hw, Hd, ⟨Hi0, ⟨%f0, Hb0⟩, Hm0, Hl0⟩, ⟨Hi1, ⟨%f1, Hb1⟩, Hm1, Hl1⟩, Ho⟩ HK
  iapply (wp_wait_q m c (lq g.succ) (lq_ne _) (wS_eq g) (src := wRows g) (dst := wfM g) (K := fun _ => _) (credit_w g) _
    (fun x _ => by rw [lv_low c _ (by show 1 + (g.val + 1) < 46; have := g.isLt; omega)]; omega)) $$ [Hw Ho]
  · isplitr; · iexact Hctx
    isplitl [Hw] <;> iassumption
  iintro ⟨Hp, Hz, Ho⟩
  ihave Hp := (Entails.of_eq (dmaPay_w m c g)) $$ Hp
  icases Hp with ⟨Hwf, Hwr⟩
  iapply (wp_loadWf m c g (K := fun w => _)) $$ Hwf
  iintro Hwf
  iapply (wp_loadDyb c (DYB m c) (K := fun a => _)) $$ Hd
  iintro Hd
  iapply (wp_loadBuf c 0 j0 f0 (K := fun _ => _)) $$ Hb0
  iintro Hb0
  iapply (wp_storeBuf m c j0 f0 _ (T_even m c g j0 h0).symm (K := fun _ => _)) $$ Hb0
  iintro Hb0
  iapply (wp_send0 m c n0 j0 hn0 _ (K := fun _ => _)) $$ [Hi0 Hb0 Hm0 Ho]
  · isplitr; · iexact Hctx
    isplitl [Hi0]; · iexact Hi0
    isplitl [Hb0]; · iexact Hb0
    isplitl [Hm0] <;> iassumption
  iintro ⟨Hf0, Ho⟩
  iapply (wp_loadBuf c 0 j1 f1 (K := fun _ => _)) $$ Hb1
  iintro Hb1
  iapply (wp_storeBuf m c j1 f1 _ (T_odd m c g j1 h1).symm (K := fun _ => _)) $$ Hb1
  iintro Hb1
  iapply (wp_send0 m c n1 j1 hn1 _ (K := fun _ => K _)) $$ [Hi1 Hb1 Hm1 Ho]
  · isplitr; · iexact Hctx
    isplitl [Hi1]; · iexact Hi1
    isplitl [Hb1]; · iexact Hb1
    isplitl [Hm1] <;> iassumption
  iintro ⟨Hf1, Ho⟩
  iapply HK
  isplitl [Hwf Hwr Hz]
  · isplitl [Hwf]; · iexact Hwf
    isplitl [Hwr] <;> iassumption
  isplitl [Hd]; · iexact Hd
  isplitl [Hf0 Hl0]; · isplitl [Hf0] <;> iassumption
  isplitl [Hf1 Hl1]; · isplitl [Hf1] <;> iassumption
  iexact Ho

/-! ## The start -/

/-- What the copy of a quarter of the weights takes. -/
def wIn (c : Dev nD) (g : Fin 4) : sProp 𝕄 := iprop(locIdle c (lq g.succ) ∗ wPts c g (wArg m c) ∗ ∃ f, wfPts c g f)

theorem wp_copyW (c : Dev nD) (g : Fin 4) {hsrc : (wRows g).view.WordExact} {hdst : (wfM g).view.WordExact}
    {hsem : DmaTarget.Typed (nD := nD) .hbm (.dma (wS g)) (.here (p := (.tc : Proc τ)) (wfM g))}
    {α : Type} {Q : α → sProp 𝕄} {K : PUnit → KProg (F := F) α} :
    iprop(ctx m ∗ wIn m c g)
      ⊢ iprop((waiting c (lq g.succ) -∗ WP c (K ⟨⟩) Q)
        -∗ WP c (Prog.lift (.enqueueDma (wRows g) (.here (wfM g)) (.dma (wS g)) hsrc hdst hsem) >>= K) Q) := by
  unfold wIn
  iintro ⟨#Hctx, Hi, Hw, ⟨%f, Hf⟩⟩ HK
  iapply (wp_local_gen m c (lq g.succ) (lq_ne _) (wS_eq g) (src := wRows g) (dst := wfM g) (hsrc := hsrc) (hdst := hdst) (hsem := hsem)
    (credit_w g) (wArg m c) f (by
      rw [dmaPay_w]
      unfold wfPts wPts
      exact sep_mono_left (Entails.of_eq (pointsTo_congr (write_eq_of (wfM g).view f (WF m c) _ (WF_copied m c g))))) (K := K)) $$ [Hi Hw Hf]
  · isplitr; · iexact Hctx
    isplitl [Hi]; · iexact Hi
    unfold wPts wfPts
    isplitl [Hw] <;> iassumption
  iintro H
  iapply HK
  iexact H

theorem wp_copyDy (c : Dev nD) (f : Vec F S256x4096 .f32) {hsrc : (dyRows c).view.WordExact} {hdst : dyf.view.WordExact}
    {hsem : DmaTarget.Typed (nD := nD) .hbm (.dma dyS) (.here (p := (.tc : Proc τ)) dyf)}
    {α : Type} {Q : α → sProp 𝕄} {K : PUnit → KProg (F := F) α} :
    iprop(ctx m ∗ locIdle c (lq 0) ∗ dyPts c (dyArg m c) ∗ dyfPts c f)
      ⊢ iprop((waiting c (lq 0) -∗ WP c (K ⟨⟩) Q)
        -∗ WP c (Prog.lift (.enqueueDma (dyRows c) (.here dyf) (.dma dyS) hsrc hdst hsem) >>= K) Q) := by
  have hp : iprop((dyf.view.loc (c : Thread nD τ) ↦[dyf.view.set]{fullShare} dyf.view.write (Elt F) f ((dyRows c).view.read (Elt F) (dyArg m c)) Finset.univ)
      ∗ ((dyRows c).view.loc (c : Thread nD τ) ↦[(dyRows c).view.set]{fullShare} (dyArg m c))) ⊢ (dmaPay m c (lq 0) : sProp 𝕄) := by
    rw [dmaPay_dy]
    unfold dyfPts dyPts
    refine sep_mono_left (Entails.of_eq (pointsTo_congr (write_eq_of dyf.view f (DY m c) _ (fun x => ?_))))
    show DY m c x = DY m c x
    rfl
  have h := wp_local_gen m c (lq 0) (lq_ne _) dyS_eq (src := dyRows c) (dst := dyf) (hsrc := hsrc) (hdst := hdst) (hsem := hsem)
    amt_dy.symm (dyArg m c) f hp (Q := Q) (K := K)
  unfold dyPts dyfPts
  exact h

/-- The barrier's share of a device: its own cell's position and credit, and the tokens of the three duties it pays. -/
def barIdle (c : Dev nD) : sProp 𝕄 :=
  iprop(atPos ER (barCell c) 0 ∅ 0 ∗ cred (tallyAt (barCell c) () 3)
    ∗ dutyTok ER (barCell (px c)) 0 0 ∗ dutyTok ER (barCell (py c)) 0 1 ∗ dutyTok ER (barCell (pz c)) 0 2)

/-- One signal to a neighbour: its duty paid, with the places lent to it. -/
theorem wp_tell (c n n' : Dev nD) (hn : n' = n) (d : Fin 3) (O' : CellTallies nD τ sig Unit) (O : CellTallies nD τ sig Unit)
    (hO : O = O' + tallyAt (barCell n) () 1)
    {α : Type} {Q : α → sProp 𝕄} {K : PUnit → KProg (F := F) α} :
    iprop(ctx m ∗ dutyTok ER (barCell n) 0 d ∗ barPay n d ∗ (∃ W, owes (c : Thread nD τ) O W))
      ⊢ iprop(((∃ W, owes (c : Thread nD τ) O' W) -∗ WP c (K ⟨⟩) Q) -∗ WP c (semSignalWord n' barS 1#32 >>= K) Q) := by
  subst hn hO
  iintro ⟨#Hctx, Ht, Hp, ⟨%W, Ho⟩⟩ HK
  ihave HS := (ctx_bar m n') $$ Hctx
  icases HS with ⟨⟨%κ, #Hi⟩, #Hr⟩
  unfold semSignalWord
  simp only [Prog.lift, Prog.bind_op, Prog.bind_ret, Prog.pure_eq_ret]
  iapply (Rounds.wp_signal 𝒱₀ ER (sched m) (c : Thread nD τ) none (dst := (n' : Thread nD τ)) (κ := κ)
      (d := d) (by rw [duties_bar]; exact Finset.mem_univ _) ((amount_bar m n' d).trans (by decide)) () O' rfl)
    $$ [Ho Ht Hp]
  · isplitr; · iexact Hi
    isplitl [Ho]; · iexact Ho
    isplitl [Ht]; · iexact Ht
    isplitl [Hp]; · rw [payload_bar]; iexact Hp
    iexact Hr
  iintro Ho
  iapply HK
  iexists W; iexact Ho

/-- The wait for the three neighbours: the places they lend arrive. -/
theorem wp_told (c : Dev nD) (l : List (Fin 5 × Fin 8))
    {α : Type} {Q : α → sProp 𝕄} {K : PUnit → KProg (F := F) α} :
    iprop(ctx m ∗ atPos ER (barCell c) 0 ∅ 0 ∗ cred (tallyAt (barCell c) () 3) ∗ owesX c l)
      ⊢ iprop(((barPay c 0 ∗ barPay c 1 ∗ barPay c 2 ∗ semVal (barCell c) 0 ∗ owesX c l) -∗ WP c (K ⟨⟩) Q)
        -∗ WP c (semWaitWord barS 3#32 >>= K) Q) := by
  unfold owesX
  iintro ⟨#Hctx, Ha, Hc, ⟨%W, Ho⟩⟩ HK
  ihave HS := (ctx_bar m c) $$ Hctx
  icases HS with ⟨⟨%κ, #Hi⟩, #Hr⟩
  unfold semWaitWord
  simp only [Prog.lift, Prog.bind_op, Prog.bind_ret, Prog.pure_eq_ret]
  iapply (Rounds.wp_wait_rest_token 𝒱₀ ER (sched m) (c : Thread nD τ) none (κ := κ)
      (wpE_semWait_eq 𝒱₀ (c : Thread nD τ) none Set.univ) (Set.mem_univ _) () (O := owed c l) (W := W) (R := 0) (m := 0) (T := ∅)
      (by rw [expect_bar]; decide)) $$ [Hc Ho Ha]
  · isplitr; · iexact Hi
    isplitl [Hc]; · iexact Hc
    isplitl [Ho]; · iexact Ho
    isplitr
    · iapply (mayWait_owed c (.reg barS) l (fun x _ => by show 1 < 2 + rank x; omega)); iapply (ctx_lev m); iexact Hctx
    iexact Ha
  iintro ⟨Ho, Ha, -, Hp⟩
  ihave Hp := (Entails.of_eq (rest_bar m c)) $$ Hp
  icases Hp with ⟨Hp0, Hp1, Hp2⟩
  imod (Rounds.cell_close ER (sched m) (Set.mem_univ κ) (fun h => h) (R := 0 + 1) (duties_later m (barCell c))) $$ [Ha] with Hz
  · isplitr; · iexact Hi
    iexact Ha
  iapply HK
  isplitl [Hp0]; · iexact Hp0
  isplitl [Hp1]; · iexact Hp1
  isplitl [Hp2]; · iexact Hp2
  isplitl [Hz]; · iexact Hz
  iexists _; iexact Ho

/-- Before the start. -/
def sPre (c : Dev nD) : sProp 𝕄 :=
  iprop(barIdle c ∗ (barPay (px c) 0 ∗ barPay (py c) 1 ∗ barPay (pz c) 2)
    ∗ (locIdle c (lq 0) ∗ dyPts c (dyArg m c) ∗ ∃ f, dyfPts c f)
    ∗ (wIn m c 0 ∗ wIn m c 1 ∗ wIn m c 2 ∗ wIn m c 3) ∗ (∃ f, dybPts c f) ∗ ∃ W, owes (c : Thread nD τ) (O₀ c) W)
/-- After it. -/
def sPost (c : Dev nD) : sProp 𝕄 :=
  iprop((barPay c 0 ∗ barPay c 1 ∗ barPay c 2 ∗ semVal (barCell c) 0)
    ∗ (dyfPts c (DY m c) ∗ dyPts c (dyArg m c) ∗ semVal (qCell c (lq 0)) 0)
    ∗ (waiting c (lq (0 : Fin 4).succ) ∗ waiting c (lq (1 : Fin 4).succ) ∗ waiting c (lq (2 : Fin 4).succ) ∗ waiting c (lq (3 : Fin 4).succ)) ∗ dybPts c (DYB m c) ∗ owesX c order)

theorem stageStart_spec (c n1 n2 n3 : Dev nD) (h1 : n1 = px c) (h2 : n2 = py c) (h3 : n3 = pz c)
    {α : Type} {Q : α → sProp 𝕄} {K : PUnit → KProg (F := F) α} :
    iprop(ctx m ∗ sPre m c) ⊢ iprop((sPost m c -∗ WP c (K ⟨⟩) Q) -∗ WP c (stageStart n1 n2 n3 c >>= K) Q) := by
  unfold sPre sPost barIdle
  iintro ⟨#Hctx, ⟨Ha, Hc, Ht0, Ht1, Ht2⟩, ⟨Hp0, Hp1, Hp2⟩, ⟨Hi, Hdy, ⟨%f, Hdyf⟩⟩, ⟨Hw0, Hw1, Hw2, Hw3⟩, ⟨%g, Hdyb⟩, Ho⟩ HK
  iapply (wp_tell m c (px c) n1 h1 0 _ (O₀ c) rfl (K := fun _ => _)) $$ [Ht0 Hp0 Ho]
  · isplitr; · iexact Hctx
    isplitl [Ht0]; · iexact Ht0
    isplitl [Hp0] <;> iassumption
  iintro Ho
  iapply (wp_tell m c (py c) n2 h2 1 _ _ rfl (K := fun _ => _)) $$ [Ht1 Hp1 Ho]
  · isplitr; · iexact Hctx
    isplitl [Ht1]; · iexact Ht1
    isplitl [Hp1] <;> iassumption
  iintro Ho
  iapply (wp_tell m c (pz c) n3 h3 2 _ _ rfl (K := fun _ => _)) $$ [Ht2 Hp2 Ho]
  · isplitr; · iexact Hctx
    isplitl [Ht2]; · iexact Ht2
    isplitl [Hp2] <;> iassumption
  iintro Ho
  iapply (wp_copyDy m c f (K := fun _ => _)) $$ [Hi Hdy Hdyf]
  · isplitr; · iexact Hctx
    isplitl [Hi]; · iexact Hi
    isplitl [Hdy] <;> iassumption
  iintro Hv
  iapply (wp_copyW m c 0 (K := fun _ => _)) $$ [Hw0]
  · isplitr; · iexact Hctx
    iexact Hw0
  iintro Hw0
  iapply (wp_copyW m c 1 (K := fun _ => _)) $$ [Hw1]
  · isplitr; · iexact Hctx
    iexact Hw1
  iintro Hw1
  iapply (wp_copyW m c 2 (K := fun _ => _)) $$ [Hw2]
  · isplitr; · iexact Hctx
    iexact Hw2
  iintro Hw2
  iapply (wp_copyW m c 3 (K := fun _ => _)) $$ [Hw3]
  · isplitr; · iexact Hctx
    iexact Hw3
  iintro Hw3
  iapply (wp_told m c order (K := fun _ => _)) $$ [Ha Hc Ho]
  · isplitr; · iexact Hctx
    isplitl [Ha]; · iexact Ha
    isplitl [Hc]; · iexact Hc
    unfold owesX; iexact Ho
  iintro ⟨Hp0, Hp1, Hp2, Hzb, Ho⟩
  iapply (wp_wait_q m c (lq 0) (lq_ne _) dyS_eq (src := dyRows c) (dst := dyf) (K := fun _ => _) amt_dy.symm _
    (fun x _ => by rw [lv_low c _ (by decide)]; omega)) $$ [Hv Ho]
  · isplitr; · iexact Hctx
    isplitl [Hv] <;> iassumption
  iintro ⟨Hd, Hz, Ho⟩
  ihave Hd := (Entails.of_eq (dmaPay_dy m c)) $$ Hd
  icases Hd with ⟨Hdyf, Hdy⟩
  iapply (wp_loadDyf c (DY m c) (K := fun v => _)) $$ Hdyf
  iintro Hdyf
  iapply (wp_loadDyb c g (K := fun _ => _)) $$ Hdyb
  iintro Hdyb
  iapply (wp_storeDyb c g (DYB m c) (K := K)) $$ Hdyb
  iintro Hdyb
  iapply HK
  isplitl [Hp0 Hp1 Hp2 Hzb]
  · isplitl [Hp0]; · iexact Hp0
    isplitl [Hp1]; · iexact Hp1
    isplitl [Hp2] <;> iassumption
  isplitl [Hdyf Hdy Hz]
  · isplitl [Hdyf]; · iexact Hdyf
    isplitl [Hdy] <;> iassumption
  isplitl [Hw0 Hw1 Hw2 Hw3]
  · isplitl [Hw0]; · iexact Hw0
    isplitl [Hw1]; · iexact Hw1
    isplitl [Hw2] <;> iassumption
  isplitl [Hdyb]; · iexact Hdyb
  iexact Ho

end Cert.KernelProof

end
-- ==== Proof.Body.lean ====
/- The whole kernel body on one device: the stages one after another, from what a device holds at the start to everything
   of all eight chunks having arrived. -/
module

public import proofs.«01_k».proof.Proof.Start

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The stages at their place in the order of the transfers -/

theorem runA (c : Dev nD) (n : ℕ) (g : Fin 4) (j0 j1 : Fin 8) (h0 : j0.val = 2 * g.val) (h1 : j1.val = 2 * g.val + 1)
    (n0 n1 : Dev nD) (hn0 : n0 = py c) (hn1 : n1 = py c) (hd : order.drop n = (0, j0) :: (0, j1) :: order.drop (n + 2))
    {α : Type} {Q : α → sProp 𝕄} {K : FVec F S256x128 .f32 × FVec F S256x128 .f32 → KProg (F := F) α} :
    iprop(ctx m ∗ waiting c (lq g.succ) ∗ dybPts c (DYB m c) ∗ st0 c j0 ∗ st0 c j1 ∗ owesX c (order.drop n))
      ⊢ iprop(((wDone m c g ∗ dybPts c (DYB m c) ∗ stA c j0 ∗ stA c j1 ∗ owesX c (order.drop (n + 2))) -∗ WP c (K (P m c j0, P m c j1)) Q)
        -∗ WP c (stageA g j0 j1 n0 n1 >>= K) Q) := by
  rw [hd]; exact stageA_spec m c g j0 j1 h0 h1 n0 n1 hn0 hn1 _

theorem runB (c : Dev nD) (n : ℕ) (j : Fin 8) (p : FVec F S256x128 .f32) (hpv : p = P m c j) (o : Band) (hp : (bandRect o).PackedRows (EltTy.packing .bf16))
    (o' : Band) (hw : (bandRect o').WholeWords (EltTy.packing .bf16)) (nx nz : Dev nD)
    (ho : o = ownBand c j) (ho' : o' = ownBand c j) (hnx : nx = px c) (hnz : nz = pz c)
    (hd : order.drop n = (1, j) :: (2, j) :: order.drop (n + 2)) (hl0 : ∀ x ∈ order.drop n, rank (0, j) < rank x)
    {α : Type} {Q : α → sProp 𝕄} {K : PUnit → KProg (F := F) α} :
    iprop(ctx m ∗ stA c j ∗ owesX c (order.drop n))
      ⊢ iprop(((stB m c j ∗ owesX c (order.drop (n + 2))) -∗ WP c (K ⟨⟩) Q) -∗ WP c (stageB j p o hp o' hw nx nz >>= K) Q) := by
  rw [hd] at hl0 ⊢; exact stageB_spec m c j p hpv o hp o' hw nx nz ho ho' hnx hnz _ hl0

theorem runC (c : Dev nD) (n : ℕ) (j : Fin 8) (o : Band) (hw : (bandRect o).WholeWords (EltTy.packing .bf16))
    (oz : HalfBand) (hz : (halfRect oz).WholeWords (EltTy.packing .bf16)) (ox : HalfBand) (hx : (halfRect ox).WholeWords (EltTy.packing .bf16))
    (nz nx : Dev nD) (hnz : nz = pz c) (hnx : nx = px c) (hoz : oz = dzHalf c j) (hox : ox = dxHalf c j)
    (hd : order.drop n = (3, j) :: (4, j) :: order.drop (n + 2))
    (hl1 : ∀ x ∈ order.drop n, rank (1, j) < rank x) (hl2 : ∀ x ∈ order.drop n, rank (2, j) < rank x)
    {α : Type} {Q : α → sProp 𝕄} {K : PUnit → KProg (F := F) α} :
    iprop(ctx m ∗ stB m c j ∗ owesX c (order.drop n))
      ⊢ iprop(((stC m c j ∗ owesX c (order.drop (n + 2))) -∗ WP c (K ⟨⟩) Q) -∗ WP c (stageC j o hw oz hz ox hx nz nx >>= K) Q) := by
  rw [hd] at hl1 hl2 ⊢
  exact stageC_spec m c j o hw oz hz ox hx nz nx hnz hnx hoz hox _ hl1 fun x h => hl2 x (List.mem_cons_of_mem _ h)

theorem runD (c : Dev nD) (n : ℕ) (j : Fin 8) (oz : HalfBand) (hz : (halfRect oz).WholeWords (EltTy.packing .bf16))
    (ox : HalfBand) (hx : (halfRect ox).WholeWords (EltTy.packing .bf16))
    (hl3 : ∀ x ∈ order.drop n, rank (3, j) < rank x) (hl4 : ∀ x ∈ order.drop n, rank (4, j) < rank x)
    {α : Type} {Q : α → sProp 𝕄} {K : PUnit → KProg (F := F) α} :
    iprop(ctx m ∗ stC m c j ∗ owesX c (order.drop n))
      ⊢ iprop(((stD m c j ∗ owesX c (order.drop n)) -∗ WP c (K ⟨⟩) Q) -∗ WP c (stageD j oz hz ox hx >>= K) Q) :=
  stageD_spec m c j oz hz ox hx _ hl3 hl4

/-- The last stage, with nothing after it. -/
theorem stageD_end (j : Fin 8) (oz : HalfBand) (hz : (halfRect oz).WholeWords (EltTy.packing .bf16))
    (ox : HalfBand) (hx : (halfRect ox).WholeWords (EltTy.packing .bf16)) :
    (stageD (F := F) j oz hz ox hx >>= fun _ => Prog.ret ⟨⟩) = stageD j oz hz ox hx := by
  unfold stageD waitHalf
  simp only [Prog.lift, Prog.bind_op, Prog.bind_ret]

/-! ## The body -/

/-- What device `c` holds of chunk `j` before its neighbours lend their places. -/
def mine (c : Dev nD) (j : Fin 8) : sProp 𝕄 :=
  iprop(idle c 0 j ∗ idle c 1 j ∗ idle c 2 j ∗ idle c 3 j ∗ idle c 4 j ∗ (∃ f, bufPts c 0 j f) ∗ (∃ f, bandPts c (ownBand c j) fullShare f))

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- With what the neighbours lend, each chunk is ready to begin. -/
theorem st0_of (c : Dev nD) (j : Fin 8) :
    iprop(mine (F := F) c j ∗ (room 1 c j ∗ room 4 c j) ∗ room 0 c j ∗ room 2 c j ∗ room 3 c j) ⊢ (st0 c j : sProp 𝕄) := by
  unfold mine st0 later tail
  iintro ⟨⟨H0, H1, H2, H3, H4, Hb, Ho⟩, ⟨R1, R4⟩, R0, R2, R3⟩
  isplitl [H0]; · iexact H0
  isplitl [Hb]; · iexact Hb
  isplitl [R0]; · iexact R0
  isplitl [H1]; · iexact H1
  isplitl [H2]; · iexact H2
  isplitl [R1]; · iexact R1
  isplitl [R2]; · iexact R2
  isplitl [Ho]; · iexact Ho
  isplitl [H3]; · iexact H3
  isplitl [H4]; · iexact H4
  isplitl [R3] <;> iassumption

theorem st0_intro (c : Dev nD) :
    iprop(bigSep Finset.univ (mine (F := F) c) ∗ barPay c 0 ∗ barPay c 1 ∗ barPay c 2) ⊢ (bigSep Finset.univ fun j => st0 c j : sProp 𝕄) := by
  unfold barPay
  rw [← bigSep_sep', ← bigSep_sep', ← bigSep_sep']
  exact bigSep_mono fun j _ => st0_of c j

/-- What device `c` holds at the end. -/
def bPost (c : Dev nD) : sProp 𝕄 :=
  iprop(semVal (barCell c) 0 ∗ (dyfPts c (DY m c) ∗ dyPts c (dyArg m c) ∗ semVal (qCell c (lq 0)) 0)
    ∗ (wDone m c 0 ∗ wDone m c 1 ∗ wDone m c 2 ∗ wDone m c 3) ∗ dybPts c (DYB m c)
    ∗ (bigSep Finset.univ fun j => stD m c j) ∗ ∃ W, owes (c : Thread nD τ) 0 W)

set_option maxHeartbeats 2000000 in
set_option maxRecDepth 65536 in
theorem stages_spec (c : Dev nD) {Q : PUnit → sProp 𝕄} {K : PUnit → KProg (F := F) PUnit} :
    iprop(ctx m ∗ sPre m c ∗ bigSep Finset.univ (mine c)) ⊢ iprop((bPost m c -∗ WP c (.ret ⟨⟩) Q) -∗ WP c (stages c) Q) := by
  iintro ⟨#Hctx, Hs, Hm⟩ HK
  unfold stages
  iapply (stageStart_spec m c _ _ _ (Fin.ext (k0_dev1_eq c)) (Fin.ext (k0_dev2_eq c)) (Fin.ext (k0_dev3_eq c)) (K := fun _ => _)) $$ [Hs]
  · isplitr; · iexact Hctx
    iexact Hs
  unfold sPost
  iintro ⟨⟨Hb0, Hb1, Hb2, Hzb⟩, Hdy, ⟨Hw0, Hw1, Hw2, Hw3⟩, Hd, Ho⟩
  ihave Hst := (st0_intro (F := F) c) $$ [Hm Hb0 Hb1 Hb2]
  · isplitl [Hm]; · iexact Hm
    isplitl [Hb0]; · iexact Hb0
    isplitl [Hb1] <;> iassumption
  ihave Hst := (Entails.of_eq (fin8 fun j => st0 (F := F) c j)) $$ Hst
  icases Hst with ⟨S0, S1, S2, S3, S4, S5, S6, S7⟩
  ihave Ho := (show owesX (F := F) c order ⊢ owesX c (order.drop 0) from .rfl) $$ Ho
  iapply (runA m c 0 0 0 1 rfl rfl _ _ (Fin.ext (k0_dev4_eq c)) (Fin.ext (k0_dev5_eq c)) rfl (K := fun _ => _)) $$ [Hw0 Hd S0 S1 Ho]
  · isplitr; · iexact Hctx
    isplitl [Hw0]; · iexact Hw0
    isplitl [Hd]; · iexact Hd
    isplitl [S0]; · iexact S0
    isplitl [S1] <;> iassumption
  iintro ⟨Hw0, Hd, S0, S1, Ho⟩
  iapply (runA m c 2 1 2 3 rfl rfl _ _ (Fin.ext (k0_dev6_eq c)) (Fin.ext (k0_dev7_eq c)) rfl (K := fun _ => _)) $$ [Hw1 Hd S2 S3 Ho]
  · isplitr; · iexact Hctx
    isplitl [Hw1]; · iexact Hw1
    isplitl [Hd]; · iexact Hd
    isplitl [S2]; · iexact S2
    isplitl [S3] <;> iassumption
  iintro ⟨Hw1, Hd, S2, S3, Ho⟩
  iapply (runA m c 4 2 4 5 rfl rfl _ _ (Fin.ext (k0_dev8_eq c)) (Fin.ext (k0_dev9_eq c)) rfl (K := fun _ => _)) $$ [Hw2 Hd S4 S5 Ho]
  · isplitr; · iexact Hctx
    isplitl [Hw2]; · iexact Hw2
    isplitl [Hd]; · iexact Hd
    isplitl [S4]; · iexact S4
    isplitl [S5] <;> iassumption
  iintro ⟨Hw2, Hd, S4, S5, Ho⟩
  iapply (runB m c 6 0 _ rfl _ _ _ _ _ _ (Subtype.ext (k0_off2_eq c)) (Subtype.ext (k0_off3_eq c)) (Fin.ext (k0_dev10_eq c)) (Fin.ext (k0_dev11_eq c)) rfl (by decide) (K := fun _ => _)) $$ [S0 Ho]
  · isplitr; · iexact Hctx
    isplitl [S0] <;> iassumption
  iintro ⟨S0, Ho⟩
  iapply (runB m c 8 1 _ rfl _ _ _ _ _ _ (Subtype.ext (k0_off4_eq c)) (Subtype.ext (k0_off5_eq c)) (Fin.ext (k0_dev12_eq c)) (Fin.ext (k0_dev13_eq c)) rfl (by decide) (K := fun _ => _)) $$ [S1 Ho]
  · isplitr; · iexact Hctx
    isplitl [S1] <;> iassumption
  iintro ⟨S1, Ho⟩
  iapply (runA m c 10 3 6 7 rfl rfl _ _ (Fin.ext (k0_dev14_eq c)) (Fin.ext (k0_dev15_eq c)) rfl (K := fun _ => _)) $$ [Hw3 Hd S6 S7 Ho]
  · isplitr; · iexact Hctx
    isplitl [Hw3]; · iexact Hw3
    isplitl [Hd]; · iexact Hd
    isplitl [S6]; · iexact S6
    isplitl [S7] <;> iassumption
  iintro ⟨Hw3, Hd, S6, S7, Ho⟩
  iapply (runB m c 12 2 _ rfl _ _ _ _ _ _ (Subtype.ext (k0_off6_eq c)) (Subtype.ext (k0_off7_eq c)) (Fin.ext (k0_dev16_eq c)) (Fin.ext (k0_dev17_eq c)) rfl (by decide) (K := fun _ => _)) $$ [S2 Ho]
  · isplitr; · iexact Hctx
    isplitl [S2] <;> iassumption
  iintro ⟨S2, Ho⟩
  iapply (runC m c 14 0 _ _ _ _ _ _ _ _ (Fin.ext (k0_dev18_eq c)) (Fin.ext (k0_dev19_eq c)) (Subtype.ext (k0_off8_eq c)) (Subtype.ext (k0_off9_eq c)) rfl (by decide) (by decide) (K := fun _ => _)) $$ [S0 Ho]
  · isplitr; · iexact Hctx
    isplitl [S0] <;> iassumption
  iintro ⟨S0, Ho⟩
  iapply (runB m c 16 3 _ rfl _ _ _ _ _ _ (Subtype.ext (k0_off10_eq c)) (Subtype.ext (k0_off11_eq c)) (Fin.ext (k0_dev20_eq c)) (Fin.ext (k0_dev21_eq c)) rfl (by decide) (K := fun _ => _)) $$ [S3 Ho]
  · isplitr; · iexact Hctx
    isplitl [S3] <;> iassumption
  iintro ⟨S3, Ho⟩
  iapply (runC m c 18 1 _ _ _ _ _ _ _ _ (Fin.ext (k0_dev22_eq c)) (Fin.ext (k0_dev23_eq c)) (Subtype.ext (k0_off12_eq c)) (Subtype.ext (k0_off13_eq c)) rfl (by decide) (by decide) (K := fun _ => _)) $$ [S1 Ho]
  · isplitr; · iexact Hctx
    isplitl [S1] <;> iassumption
  iintro ⟨S1, Ho⟩
  iapply (runB m c 20 4 _ rfl _ _ _ _ _ _ (Subtype.ext (k0_off14_eq c)) (Subtype.ext (k0_off15_eq c)) (Fin.ext (k0_dev24_eq c)) (Fin.ext (k0_dev25_eq c)) rfl (by decide) (K := fun _ => _)) $$ [S4 Ho]
  · isplitr; · iexact Hctx
    isplitl [S4] <;> iassumption
  iintro ⟨S4, Ho⟩
  iapply (runC m c 22 2 _ _ _ _ _ _ _ _ (Fin.ext (k0_dev26_eq c)) (Fin.ext (k0_dev27_eq c)) (Subtype.ext (k0_off16_eq c)) (Subtype.ext (k0_off17_eq c)) rfl (by decide) (by decide) (K := fun _ => _)) $$ [S2 Ho]
  · isplitr; · iexact Hctx
    isplitl [S2] <;> iassumption
  iintro ⟨S2, Ho⟩
  iapply (runD m c 24 0 _ _ _ _ (by decide) (by decide) (K := fun _ => _)) $$ [S0 Ho]
  · isplitr; · iexact Hctx
    isplitl [S0] <;> iassumption
  iintro ⟨S0, Ho⟩
  iapply (runB m c 24 5 _ rfl _ _ _ _ _ _ (Subtype.ext (k0_off18_eq c)) (Subtype.ext (k0_off19_eq c)) (Fin.ext (k0_dev28_eq c)) (Fin.ext (k0_dev29_eq c)) rfl (by decide) (K := fun _ => _)) $$ [S5 Ho]
  · isplitr; · iexact Hctx
    isplitl [S5] <;> iassumption
  iintro ⟨S5, Ho⟩
  iapply (runC m c 26 3 _ _ _ _ _ _ _ _ (Fin.ext (k0_dev30_eq c)) (Fin.ext (k0_dev31_eq c)) (Subtype.ext (k0_off20_eq c)) (Subtype.ext (k0_off21_eq c)) rfl (by decide) (by decide) (K := fun _ => _)) $$ [S3 Ho]
  · isplitr; · iexact Hctx
    isplitl [S3] <;> iassumption
  iintro ⟨S3, Ho⟩
  iapply (runD m c 28 1 _ _ _ _ (by decide) (by decide) (K := fun _ => _)) $$ [S1 Ho]
  · isplitr; · iexact Hctx
    isplitl [S1] <;> iassumption
  iintro ⟨S1, Ho⟩
  iapply (runB m c 28 6 _ rfl _ _ _ _ _ _ (Subtype.ext (k0_off22_eq c)) (Subtype.ext (k0_off23_eq c)) (Fin.ext (k0_dev32_eq c)) (Fin.ext (k0_dev33_eq c)) rfl (by decide) (K := fun _ => _)) $$ [S6 Ho]
  · isplitr; · iexact Hctx
    isplitl [S6] <;> iassumption
  iintro ⟨S6, Ho⟩
  iapply (runC m c 30 4 _ _ _ _ _ _ _ _ (Fin.ext (k0_dev34_eq c)) (Fin.ext (k0_dev35_eq c)) (Subtype.ext (k0_off24_eq c)) (Subtype.ext (k0_off25_eq c)) rfl (by decide) (by decide) (K := fun _ => _)) $$ [S4 Ho]
  · isplitr; · iexact Hctx
    isplitl [S4] <;> iassumption
  iintro ⟨S4, Ho⟩
  iapply (runD m c 32 2 _ _ _ _ (by decide) (by decide) (K := fun _ => _)) $$ [S2 Ho]
  · isplitr; · iexact Hctx
    isplitl [S2] <;> iassumption
  iintro ⟨S2, Ho⟩
  iapply (runB m c 32 7 _ rfl _ _ _ _ _ _ (Subtype.ext (k0_off26_eq c)) (Subtype.ext (k0_off27_eq c)) (Fin.ext (k0_dev36_eq c)) (Fin.ext (k0_dev37_eq c)) rfl (by decide) (K := fun _ => _)) $$ [S7 Ho]
  · isplitr; · iexact Hctx
    isplitl [S7] <;> iassumption
  iintro ⟨S7, Ho⟩
  iapply (runC m c 34 5 _ _ _ _ _ _ _ _ (Fin.ext (k0_dev38_eq c)) (Fin.ext (k0_dev39_eq c)) (Subtype.ext (k0_off28_eq c)) (Subtype.ext (k0_off29_eq c)) rfl (by decide) (by decide) (K := fun _ => _)) $$ [S5 Ho]
  · isplitr; · iexact Hctx
    isplitl [S5] <;> iassumption
  iintro ⟨S5, Ho⟩
  iapply (runD m c 36 3 _ _ _ _ (by decide) (by decide) (K := fun _ => _)) $$ [S3 Ho]
  · isplitr; · iexact Hctx
    isplitl [S3] <;> iassumption
  iintro ⟨S3, Ho⟩
  iapply (runC m c 36 6 _ _ _ _ _ _ _ _ (Fin.ext (k0_dev40_eq c)) (Fin.ext (k0_dev41_eq c)) (Subtype.ext (k0_off30_eq c)) (Subtype.ext (k0_off31_eq c)) rfl (by decide) (by decide) (K := fun _ => _)) $$ [S6 Ho]
  · isplitr; · iexact Hctx
    isplitl [S6] <;> iassumption
  iintro ⟨S6, Ho⟩
  iapply (runD m c 38 4 _ _ _ _ (by decide) (by decide) (K := fun _ => _)) $$ [S4 Ho]
  · isplitr; · iexact Hctx
    isplitl [S4] <;> iassumption
  iintro ⟨S4, Ho⟩
  iapply (runC m c 38 7 _ _ _ _ _ _ _ _ (Fin.ext (k0_dev42_eq c)) (Fin.ext (k0_dev43_eq c)) (Subtype.ext (k0_off32_eq c)) (Subtype.ext (k0_off33_eq c)) rfl (by decide) (by decide) (K := fun _ => _)) $$ [S7 Ho]
  · isplitr; · iexact Hctx
    isplitl [S7] <;> iassumption
  iintro ⟨S7, Ho⟩
  iapply (runD m c 40 5 _ _ _ _ (by decide) (by decide) (K := fun _ => _)) $$ [S5 Ho]
  · isplitr; · iexact Hctx
    isplitl [S5] <;> iassumption
  iintro ⟨S5, Ho⟩
  iapply (runD m c 40 6 _ _ _ _ (by decide) (by decide) (K := fun _ => _)) $$ [S6 Ho]
  · isplitr; · iexact Hctx
    isplitl [S6] <;> iassumption
  iintro ⟨S6, Ho⟩
  rw [← stageD_end]
  iapply (runD m c 40 7 _ _ _ _ (by decide) (by decide) (K := fun _ => .ret ⟨⟩)) $$ [S7 Ho]
  · isplitr; · iexact Hctx
    isplitl [S7] <;> iassumption
  iintro ⟨S7, Ho⟩
  iapply HK
  unfold bPost
  isplitl [Hzb]; · iexact Hzb
  isplitl [Hdy]; · iexact Hdy
  isplitl [Hw0 Hw1 Hw2 Hw3]
  · isplitl [Hw0]; · iexact Hw0
    isplitl [Hw1]; · iexact Hw1
    isplitl [Hw2] <;> iassumption
  isplitl [Hd]; · iexact Hd
  isplitr [Ho]
  · iapply (Entails.of_eq (fin8 fun j => stD m c j).symm)
    isplitl [S0]; · iexact S0
    isplitl [S1]; · iexact S1
    isplitl [S2]; · iexact S2
    isplitl [S3]; · iexact S3
    isplitl [S4]; · iexact S4
    isplitl [S5]; · iexact S5
    isplitl [S6] <;> iassumption
  · iapply (show owesX (F := F) c (order.drop 40) ⊢ (iprop(∃ W, owes (c : Thread nD τ) 0 W) : sProp 𝕄) from .rfl)
    iexact Ho

end Cert.KernelProof

end
-- ==== Proof.Places.lean ====
/- The buffers of a device cut into the places the kernel's copies use, at the start, and put together again at the end. -/
module

public import proofs.«01_k».proof.Proof.Body
public import proofs.«01_k».proof.Proof.Gen.KernelIdeal.Launch

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem each {I : Type} [Fintype I] {Φ Ψ : I → sProp 𝕄} (h : ∀ i, Φ i ⊢ Ψ i) : (bigSep Finset.univ Φ : sProp 𝕄) ⊢ bigSep Finset.univ Ψ :=
  bigSep_mono fun i _ => h i

/-! ## Buffers in pieces -/

/-- A whole buffer of device `c`, holding `f`. -/
abbrev whole (c : Dev nD) (b : Ref sig .tc) (f : Buf (Elt F) ((c : Thread nD τ).loc b)) : sProp 𝕄 :=
  (((c : Thread nD τ).loc b) ↦{fullShare} f)

/-- The rows of `dy` that device `c` does not multiply. -/
def dyRest (c : Dev nD) (f : Vec F S1024x4096 .f32) : sProp 𝕄 :=
  (dyRows c).view.loc (c : Thread nD τ) ↦[Finset.univ \ (dyRows c).view.set]{fullShare} f

theorem whole_dy (c : Dev nD) (f : Vec F S1024x4096 .f32) :
    (whole c main_arg0 f : sProp 𝕄) ⊣⊢ iprop(dyPts c f ∗ dyRest c f) :=
  pointsTo_split_subset (Finset.subset_univ _)

theorem whole_w (c : Dev nD) (f : Vec F S1024x4096 .f32) :
    (whole c main_arg1 f : sProp 𝕄) = bigSep Finset.univ fun g => wPts c g f := by
  have h := pointsTo_biUnion (Ix := Unit) (Lvl := ℕ) (U := UU) (Name := ℕ) (Val := Elt F) (ℓ := (c : Thread nD τ).loc main_arg1) (q := fullShare) (f := f)
    Finset.univ wRowSet fun g _ g' _ hg => wRows_disjoint g g' hg
  rw [wRows_cover] at h
  exact h

theorem whole_wf (c : Dev nD) (f : Vec F S4x256x4096 .f32) :
    (whole c cc0_scratch2 f : sProp 𝕄) = bigSep Finset.univ fun g => wfPts c g f := by
  have h := pointsTo_biUnion (Ix := Unit) (Lvl := ℕ) (U := UU) (Name := ℕ) (Val := Elt F) (ℓ := (c : Thread nD τ).loc cc0_scratch2) (q := fullShare) (f := f)
    Finset.univ wfSet fun g _ g' _ hg => wfs_disjoint g g' hg
  rw [wfs_cover] at h
  exact h

theorem whole_bufs (c : Dev nD) (f : Vec F S2x8x256x128 .bf16) :
    (whole c cc0_scratch3 f : sProp 𝕄) = iprop((bigSep Finset.univ fun j => bufPts c 0 j f) ∗ bigSep Finset.univ fun j => bufPts c 1 j f) := by
  have h := pointsTo_biUnion (Ix := Unit) (Lvl := ℕ) (U := UU) (Name := ℕ) (Val := Elt F) (ℓ := (c : Thread nD τ).loc cc0_scratch3) (q := fullShare) (f := f)
    Finset.univ (fun p : Fin 2 × Fin 8 => bufSet p.1 p.2) fun p _ p' _ hp => bufs_disjoint p p' hp
  rw [bufs_cover, bigSep_univ_prod, bigSep_univ_eq_bigSepL [0, 1] (by decide) (by decide), bigSepL_cons_cons, bigSepL_singleton] at h
  exact h

/-- The result's columns of chunk `j` on device `c`. -/
def chunkPts (c : Dev nD) (j : Fin 8) (f : Vec F S1024x1024 .bf16) : sProp 𝕄 :=
  outM.view.loc (c : Thread nD τ) ↦[chunkSet c j]{fullShare} f

theorem whole_out (c : Dev nD) (f : Vec F S1024x1024 .bf16) :
    (whole c cc0_stg0_0 f : sProp 𝕄) = bigSep Finset.univ fun j => chunkPts c j f := by
  have h := pointsTo_biUnion (Ix := Unit) (Lvl := ℕ) (U := UU) (Name := ℕ) (Val := Elt F) (ℓ := (c : Thread nD τ).loc cc0_stg0_0) (q := fullShare) (f := f)
    Finset.univ (chunkSet c) fun j _ j' _ hj => chunks_disjoint c j j' hj
  rw [chunks_cover] at h
  exact h

/-- A chunk's columns are the device's own block, those of its two neighbours, and the two halves passed on to it. -/
theorem chunk_pieces (c : Dev nD) (j : Fin 8) (f : Vec F S1024x1024 .bf16) :
    (chunkPts c j f : sProp 𝕄) ⊣⊢ iprop(bandPts c (ownBand c j) fullShare f ∗ bandPts c (ownBand (px c) j) fullShare f
      ∗ bandPts c (ownBand (pz c) j) fullShare f ∗ halfPts c (dzHalf (pz c) j) f ∗ halfPts c (dxHalf (px c) j) f) := by
  have h1 := pointsTo_union (Ix := Unit) (Lvl := ℕ) (U := UU) (Name := ℕ) (Val := Elt F) (ℓ := outM.view.loc (c : Thread nD τ)) (q := fullShare) (f := f) (chunk_disjoint₁ c j)
  have h2 := pointsTo_union (Ix := Unit) (Lvl := ℕ) (U := UU) (Name := ℕ) (Val := Elt F) (ℓ := outM.view.loc (c : Thread nD τ)) (q := fullShare) (f := f) (chunk_disjoint₂ c j)
  have h3 := pointsTo_union (Ix := Unit) (Lvl := ℕ) (U := UU) (Name := ℕ) (Val := Elt F) (ℓ := outM.view.loc (c : Thread nD τ)) (q := fullShare) (f := f) (chunk_disjoint₃ c j)
  have h4 := pointsTo_union (Ix := Unit) (Lvl := ℕ) (U := UU) (Name := ℕ) (Val := Elt F) (ℓ := outM.view.loc (c : Thread nD τ)) (q := fullShare) (f := f) (chunk_disjoint₄ c j)
  unfold chunkPts bandPts halfPts chunkSet
  constructor
  · iintro H
    ihave H := h1.1 $$ H
    icases H with ⟨H0, H⟩
    ihave H := h2.1 $$ H
    icases H with ⟨H1, H⟩
    ihave H := h3.1 $$ H
    icases H with ⟨H2, H⟩
    ihave H := h4.1 $$ H
    icases H with ⟨H3, H4⟩
    isplitl [H0]; · iexact H0
    isplitl [H1]; · iexact H1
    isplitl [H2]; · iexact H2
    isplitl [H3]; · iexact H3
    iexact H4
  · iintro ⟨H0, H1, H2, H3, H4⟩
    iapply h1.2
    isplitl [H0]; · iexact H0
    iapply h2.2
    isplitl [H1]; · iexact H1
    iapply h3.2
    isplitl [H2]; · iexact H2
    iapply h4.2
    isplitl [H3]; · iexact H3
    iexact H4

/-! ## At the start -/

/-- A chunk's columns as the device's own block and what it lends its `x` and its `z` neighbour. -/
theorem chunk_lend (c : Dev nD) (j : Fin 8) (f : Vec F S1024x1024 .bf16) :
    (chunkPts c j f : sProp 𝕄) ⊢ iprop((∃ f, bandPts c (ownBand c j) fullShare f) ∗ (room 1 (px c) j ∗ room 4 (px c) j) ∗ room 2 (pz c) j ∗ room 3 (pz c) j) := by
  rw [room_1, room_2, room_3, room_4, px_px, pz_pz]
  iintro H
  ihave H := (chunk_pieces c j f).1 $$ H
  icases H with ⟨H0, H1, H2, H3, H4⟩
  isplitl [H0]; · iexists f; iexact H0
  isplitl [H1 H4]
  · isplitl [H1]; · iexists f; iexact H1
    iexists f; iexact H4
  isplitl [H2]; · iexists f; iexact H2
  iexists f; iexact H3

theorem buf_own (c : Dev nD) (j : Fin 8) (f : Vec F S2x8x256x128 .bf16) : (bufPts c 0 j f : sProp 𝕄) ⊢ iprop(∃ f, bufPts c 0 j f) := by
  iintro H; iexists f; iexact H
theorem buf_lend (c : Dev nD) (j : Fin 8) (f : Vec F S2x8x256x128 .bf16) : (bufPts c 1 j f : sProp 𝕄) ⊢ room 0 (py c) j := by
  rw [room_0, py_py]
  iintro H; iexists f; iexact H
theorem wf_any (c : Dev nD) (g : Fin 4) (f : Vec F S4x256x4096 .f32) : (wfPts c g f : sProp 𝕄) ⊢ iprop(∃ f, wfPts c g f) := by
  iintro H; iexists f; iexact H

/-- The places device `c` starts with: what it lends its three neighbours, and what it uses itself. -/
def placed (c : Dev nD) : sProp 𝕄 :=
  iprop((barPay (px c) 0 ∗ barPay (py c) 1 ∗ barPay (pz c) 2) ∗ (dyPts c (dyArg m c) ∗ dyRest c (dyArg m c) ∗ ∃ f, dyfPts c f)
    ∗ ((bigSep Finset.univ fun g => wPts c g (wArg m c)) ∗ bigSep Finset.univ fun g => iprop(∃ f, wfPts c g f)) ∗ (∃ f, dybPts c f)
    ∗ (bigSep Finset.univ fun j => iprop(∃ f, bufPts c 0 j f)) ∗ bigSep Finset.univ fun j => iprop(∃ f, bandPts c (ownBand c j) fullShare f))

theorem places_in (c : Dev nD) :
    iprop(whole c main_arg0 (dyArg m c) ∗ whole c main_arg1 (wArg m c) ∗ (∃ f, whole c cc0_stg0_0 f)
        ∗ (∃ f, whole c cc0_scratch0 f) ∗ (∃ f, whole c cc0_scratch1 f) ∗ (∃ f, whole c cc0_scratch2 f) ∗ (∃ f, whole c cc0_scratch3 f))
      ⊢ (placed m c : sProp 𝕄) := by
  unfold placed
  iintro ⟨Ha, Hw, ⟨%fo, Ho⟩, ⟨%f0, H0⟩, ⟨%f1, H1⟩, ⟨%f2, H2⟩, ⟨%f3, H3⟩⟩
  ihave Ha := (whole_dy c (dyArg m c)).1 $$ Ha
  icases Ha with ⟨Ha, Har⟩
  ihave Hw := (Entails.of_eq (whole_w c (wArg m c))) $$ Hw
  ihave H2 := (Entails.of_eq (whole_wf c f2)) $$ H2
  ihave H2 := (each fun g => wf_any c g f2) $$ H2
  ihave H3 := (Entails.of_eq (whole_bufs c f3)) $$ H3
  icases H3 with ⟨H3, H4⟩
  ihave H3 := (each fun j => buf_own c j f3) $$ H3
  ihave H4 := (each fun j => buf_lend c j f3) $$ H4
  ihave Ho := (Entails.of_eq (whole_out c fo)) $$ Ho
  ihave Ho := (each fun j => chunk_lend c j fo) $$ Ho
  ihave Ho := (Entails.of_eq (bigSep_sep' (Finset.univ : Finset (Fin 8)) (fun j => iprop(∃ f, bandPts (F := F) c (ownBand c j) fullShare f))
    (fun j => iprop((room 1 (px c) j ∗ room 4 (px c) j) ∗ room 2 (pz c) j ∗ room 3 (pz c) j)))) $$ Ho
  icases Ho with ⟨Ho, Hr⟩
  ihave Hr := (Entails.of_eq (bigSep_sep' (Finset.univ : Finset (Fin 8)) (fun j => iprop(room (F := F) 1 (px c) j ∗ room 4 (px c) j))
    (fun j => iprop(room 2 (pz c) j ∗ room 3 (pz c) j)))) $$ Hr
  icases Hr with ⟨Hx, Hz⟩
  isplitl [Hx Hz H4]
  · unfold barPay
    isplitl [Hx]; · iexact Hx
    isplitl [H4]; · iexact H4
    iexact Hz
  isplitl [Ha Har H0]
  · isplitl [Ha]; · iexact Ha
    isplitl [Har]; · iexact Har
    iexists f0; unfold dyfPts; rw [dyf_set]; iexact H0
  isplitl [Hw H2]
  · isplitl [Hw] <;> iassumption
  isplitl [H1]; · iexists f1; unfold dybPts; iexact H1
  isplitl [H3] <;> iassumption

/-! ## At the end -/

/-- The semaphores of one chunk, all at zero. -/
def overs (c : Dev nD) (j : Fin 8) : sProp 𝕄 := iprop(over c 0 j ∗ over c 1 j ∗ over c 2 j ∗ over c 3 j ∗ over c 4 j)

/-- A finished chunk: its semaphores at zero, its exchange buffers, and its columns of the result. -/
theorem chunk_done (c : Dev nD) (j : Fin 8) :
    (stD m c j : sProp 𝕄) ⊢ iprop(overs c j ∗ bufPts c 0 j (YB m c) ∗ bufPts c 1 j (YB m c) ∗ chunkPts c j (FO m c)) := by
  unfold stD bufs kept overs
  iintro ⟨⟨O0, B0, B1⟩, ⟨O1, O2, Ho, Hx, Hz⟩, O3, O4, Hdz, Hdx, H3, H4⟩
  isplitl [O0 O1 O2 O3 O4]
  · isplitl [O0]; · iexact O0
    isplitl [O1]; · iexact O1
    isplitl [O2]; · iexact O2
    isplitl [O3] <;> iassumption
  isplitl [B0]; · iexact B0
  isplitl [B1]; · iexact B1
  iapply (chunk_pieces c j (FO m c)).2
  isplitl [Ho]; · iexact Ho
  isplitl [Hdz Hx]
  · iapply (band_px c j (FO m c)).2
    isplitl [Hdz] <;> iassumption
  isplitl [Hdx Hz]
  · iapply (band_pz c j (FO m c)).2
    isplitl [Hdx] <;> iassumption
  isplitl [H3] <;> iassumption

/-- What device `c` holds at the end, its buffers whole: the result everywhere `FO`, the arguments as they were. -/
def ended (c : Dev nD) : sProp 𝕄 :=
  iprop(whole c main_arg0 (dyArg m c) ∗ whole c main_arg1 (wArg m c) ∗ whole c cc0_stg0_0 (FO m c)
    ∗ whole c cc0_scratch0 (DY m c) ∗ whole c cc0_scratch1 (DYB m c) ∗ whole c cc0_scratch2 (WF m c) ∗ whole c cc0_scratch3 (YB m c))

theorem places_out (c : Dev nD) :
    iprop(dyRest c (dyArg m c) ∗ (dyfPts c (DY m c) ∗ dyPts c (dyArg m c)) ∗ (bigSep Finset.univ fun g => iprop(wfPts c g (WF m c) ∗ wPts c g (wArg m c)))
        ∗ dybPts c (DYB m c) ∗ bigSep Finset.univ fun j => stD m c j)
      ⊢ (iprop(ended m c ∗ bigSep Finset.univ (overs c)) : sProp 𝕄) := by
  have hd : (bigSep Finset.univ fun j => stD m c j : sProp 𝕄)
      ⊢ iprop(bigSep Finset.univ (overs c) ∗ (bigSep Finset.univ fun j => bufPts c 0 j (YB m c)) ∗ (bigSep Finset.univ fun j => bufPts c 1 j (YB m c))
        ∗ bigSep Finset.univ fun j => chunkPts c j (FO m c)) := by
    rw [← bigSep_sep', ← bigSep_sep', ← bigSep_sep']
    exact bigSep_mono fun j _ => chunk_done m c j
  have hw : (bigSep Finset.univ fun g => iprop(wfPts c g (WF m c) ∗ wPts c g (wArg m c)) : sProp 𝕄)
      ⊢ iprop((bigSep Finset.univ fun g => wfPts c g (WF m c)) ∗ bigSep Finset.univ fun g => wPts c g (wArg m c)) := by
    rw [← bigSep_sep']
  unfold ended
  iintro ⟨Hr, ⟨H0, Ha⟩, Hw, H1, Hst⟩
  ihave Hst := hd $$ Hst
  icases Hst with ⟨Hov, Hb0, Hb1, Hc⟩
  ihave Hw := hw $$ Hw
  icases Hw with ⟨H2, Hw⟩
  isplitr [Hov]
  · isplitl [Hr Ha]
    · iapply (whole_dy c (dyArg m c)).2
      isplitl [Ha] <;> iassumption
    isplitl [Hw]
    · iapply (Entails.of_eq (whole_w c (wArg m c)).symm); iexact Hw
    isplitl [Hc]
    · iapply (Entails.of_eq (whole_out c (FO m c)).symm); iexact Hc
    isplitl [H0]
    · unfold dyfPts; rw [dyf_set]; iexact H0
    isplitl [H1]; · unfold dybPts; iexact H1
    isplitl [H2]
    · iapply (Entails.of_eq (whole_wf c (WF m c)).symm); iexact H2
    iapply (Entails.of_eq (whole_bufs c (YB m c)).symm)
    isplitl [Hb0] <;> iassumption
  · iexact Hov

end Cert.KernelProof

end
-- ==== Proof.Deal.lean ====
/- What the launch deals out: the cells' records, and to each device its positions, the duty tokens of the duties it pays,
   and the credits for what its neighbours owe it. -/
module

public import proofs.«01_k».proof.Proof.Places
public import Idealize.ShloMosaic.Lib.Pipeline.CollectiveSegs

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores of one device, in groups -/

/-- The 85 semaphores of copies: five of local copies, then a send and a receive semaphore of each exchange of each chunk. -/
def mix : Fin 5 ⊕ (Fin 8 × Fin 5) ⊕ (Fin 8 × Fin 5) → Fin 85
  | .inl i => ⟨i.val, by have := i.isLt; omega⟩
  | .inr (.inl x) => ⟨5 + 8 * x.2.val + x.1.val, by have := x.1.isLt; have := x.2.isLt; omega⟩
  | .inr (.inr x) => ⟨45 + 8 * x.2.val + x.1.val, by have := x.1.isLt; have := x.2.isLt; omega⟩

theorem mix_bij : Function.Bijective mix := by decide +kernel

theorem csem_lq (i : Fin 5) : csem (some (mix (.inl i))) = .dma (lq i) :=
  congrArg SemLoc.dma (Fin.ext (by show i.val + 1 = 1 + i.val; omega))
theorem csem_sq (j : Fin 8) (k : Fin 5) : csem (some (mix (.inr (.inl (j, k))))) = .dma (sq k j) :=
  congrArg SemLoc.dma (Fin.ext (by show 5 + 8 * k.val + j.val + 1 = 6 + 8 * k.val + j.val; omega))
theorem csem_rq (j : Fin 8) (k : Fin 5) : csem (some (mix (.inr (.inr (j, k))))) = .dma (rq k j) :=
  congrArg SemLoc.dma (Fin.ext (by show 45 + 8 * k.val + j.val + 1 = 46 + 8 * k.val + j.val; omega))

/-- Something held of every semaphore of a copy, by groups. -/
theorem all_q (Ψ : SemLoc sig → sProp 𝕄) : (bigSep Finset.univ fun i : Fin 85 => Ψ (csem (some i)))
    = iprop((bigSep Finset.univ fun i : Fin 5 => Ψ (.dma (lq i)))
      ∗ (bigSep Finset.univ fun j : Fin 8 => bigSep Finset.univ fun k : Fin 5 => Ψ (.dma (sq k j)))
      ∗ bigSep Finset.univ fun j : Fin 8 => bigSep Finset.univ fun k : Fin 5 => Ψ (.dma (rq k j))) := by
  rw [bigSep_univ_equiv (Equiv.ofBijective mix mix_bij), bigSep_univ_sum, bigSep_univ_sum, bigSep_univ_prod, bigSep_univ_prod]
  simp only [Equiv.ofBijective_apply, csem_lq, csem_sq, csem_rq]
  rfl

theorem erase_none : (Finset.univ : Finset (Option (Fin 85))).erase none = Finset.univ.map Function.Embedding.some := by
  ext o; cases o <;> simp

/-- The same with the barrier. -/
theorem all_sem (Ψ : SemLoc sig → sProp 𝕄) : (bigSep Finset.univ fun o : Option (Fin 85) => Ψ (csem o))
    = iprop(Ψ (.reg barS) ∗ bigSep Finset.univ fun i : Fin 85 => Ψ (csem (some i))) := by
  rw [bigSep_univ_at _ none, erase_none, bigSep_map]; rfl

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin3 (Φ : Fin 3 → sProp 𝕄) : bigSep Finset.univ Φ = iprop(Φ 0 ∗ Φ 1 ∗ Φ 2) :=
  bigSep_univ_eq_bigSepL [0, 1, 2] (by decide) (by decide) Φ

theorem csem_injective : Function.Injective csem := by
  intro o o' h
  cases o with
  | none => cases o' with
    | none => rfl
    | some i => exact absurd h (fun h => by unfold csem at h; cases h)
  | some i => cases o' with
    | none => exact absurd h (fun h => by unfold csem at h; cases h)
    | some i' =>
      have h' : (⟨i.val + 1, by have := i.isLt; show _ < 86; omega⟩ : DmaSem sig) = ⟨i'.val + 1, by have := i'.isLt; show _ < 86; omega⟩ := SemLoc.dma.inj h
      have h2 : i.val + 1 = i'.val + 1 := congrArg (fun q : DmaSem sig => q.val) h'
      exact congrArg some (Fin.ext (by omega))

theorem kcell_injective : Function.Injective (kcell : Dev nD × Option (Fin 85) → GSem nD τ sig) := by
  rintro ⟨c, o⟩ ⟨c', o'⟩ h
  have h1 : c = c' := congrArg (fun g : GSem nD τ sig => g.1.1) h
  subst h1
  have h2 : o = o' := csem_injective (congrArg Prod.snd h)
  subst h2; rfl

def theCells : Finset (GSem nD τ sig) := Finset.univ.map ⟨kcell, kcell_injective⟩

/-! ## The duty tokens -/

/-- The duties of a device's cells: three of its barrier, one of each other. -/
abbrev tokOf (x : Dev nD × (Fin 3 ⊕ Fin 85)) : GSem nD τ sig × ℕ × Fin 3 := match x.2 with
  | .inl d => (barCell x.1, 0, d)
  | .inr i => (kcell (x.1, some i), 0, 0)

theorem tokOf_injective : Function.Injective (tokOf : Dev nD × (Fin 3 ⊕ Fin 85) → GSem nD τ sig × ℕ × Fin 3) := by
  rintro ⟨c, s⟩ ⟨c', s'⟩ h
  have h1 : c = c' := by
    have := congrArg (fun x : GSem nD τ sig × ℕ × Fin 3 => x.1.1.1) h
    cases s <;> cases s' <;> exact this
  subst h1
  refine Prod.ext rfl ?_
  cases s with
  | inl d => cases s' with
    | inl d' => exact congrArg Sum.inl (congrArg (fun x : GSem nD τ sig × ℕ × Fin 3 => x.2.2) h)
    | inr i =>
      have := kcell_injective (a₁ := (c, none)) (a₂ := (c, some i)) (congrArg Prod.fst h)
      exact absurd (congrArg Prod.snd this) (by simp)
  | inr i => cases s' with
    | inl d =>
      have := kcell_injective (a₁ := (c, some i)) (a₂ := (c, none)) (congrArg Prod.fst h)
      exact absurd (congrArg Prod.snd this) (by simp)
    | inr i' =>
      have := kcell_injective (a₁ := (c, some i)) (a₂ := (c, some i')) (congrArg Prod.fst h)
      exact congrArg Sum.inr (Option.some.inj (congrArg Prod.snd this))

def theToks : Finset (GSem nD τ sig × ℕ × Fin 3) := Finset.univ.map ⟨tokOf, tokOf_injective⟩

/-- The duty tokens of device `c`'s own cells. -/
def toks (c : Dev nD) : sProp 𝕄 :=
  iprop((bigSep Finset.univ fun d : Fin 3 => dutyTok ER (barCell c) 0 d) ∗ bigSep Finset.univ fun i : Fin 85 => dutyTok ER (kcell (c, some i)) 0 0)

/-- The tokens of the duties device `c` pays: one at each neighbour's barrier, those of its own copies and of its send
    semaphores, and those of the receive semaphores its transfers raise. -/
def payToks (c : Dev nD) : sProp 𝕄 :=
  iprop((dutyTok ER (barCell (px c)) 0 0 ∗ dutyTok ER (barCell (py c)) 0 1 ∗ dutyTok ER (barCell (pz c)) 0 2)
    ∗ (bigSep Finset.univ fun i : Fin 5 => dutyTok ER (qCell c (lq i)) 0 0)
    ∗ (bigSep Finset.univ fun j : Fin 8 => bigSep Finset.univ fun k : Fin 5 => dutyTok ER (qCell c (sq k j)) 0 0)
    ∗ bigSep Finset.univ fun j : Fin 8 => bigSep Finset.univ fun k : Fin 5 => dutyTok ER (qCell (peer k c) (rq k j)) 0 0)

theorem px_inv : Function.Involutive px := px_px
theorem py_inv : Function.Involutive py := py_py
theorem pz_inv : Function.Involutive pz := pz_pz
theorem peer_inv (k : Fin 5) : Function.Involutive (peer k) := peer_peer k

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

/-- Of every device and exchange, taken at the device itself or at the one the exchange sends to. -/
theorem over_peers (Φ : Dev nD → Fin 8 → Fin 5 → sProp 𝕄) :
    (bigSep Finset.univ fun c : Dev nD => bigSep Finset.univ fun j : Fin 8 => bigSep Finset.univ fun k : Fin 5 => Φ c j k)
      = bigSep Finset.univ fun c : Dev nD => bigSep Finset.univ fun j : Fin 8 => bigSep Finset.univ fun k : Fin 5 => Φ (peer k c) j k := by
  rw [swap (fun (c : Dev nD) (j : Fin 8) => bigSep Finset.univ fun k : Fin 5 => Φ c j k),
    swap (fun (c : Dev nD) (j : Fin 8) => bigSep Finset.univ fun k : Fin 5 => Φ (peer k c) j k)]
  refine bigSep_congr fun j _ => ?_
  rw [swap (fun (c : Dev nD) (k : Fin 5) => Φ c j k), swap (fun (c : Dev nD) (k : Fin 5) => Φ (peer k c) j k)]
  exact bigSep_congr fun k _ => bigSep_univ_equiv (peer_inv k).toPerm (fun c => Φ c j k)

/-- The tokens dealt to the devices that pay the duties. -/
theorem toks_around : (bigSep Finset.univ fun c : Dev nD => (toks c : sProp 𝕄)) ⊢ bigSep Finset.univ fun c : Dev nD => payToks c := by
  have h : ∀ c : Dev nD, (toks c : sProp 𝕄) = iprop((dutyTok ER (barCell c) 0 0 ∗ dutyTok ER (barCell c) 0 1 ∗ dutyTok ER (barCell c) 0 2)
      ∗ (bigSep Finset.univ fun i : Fin 5 => dutyTok ER (qCell c (lq i)) 0 0)
      ∗ (bigSep Finset.univ fun j : Fin 8 => bigSep Finset.univ fun k : Fin 5 => dutyTok ER (qCell c (sq k j)) 0 0)
      ∗ bigSep Finset.univ fun j : Fin 8 => bigSep Finset.univ fun k : Fin 5 => dutyTok ER (qCell c (rq k j)) 0 0) := fun c => by
    unfold toks
    rw [fin3, all_q (fun sm => dutyTok ER ((c : Thread nD τ), sm) 0 0)]
  rw [bigSep_congr fun c _ => h c]
  unfold payToks
  rw [bigSep_sep', bigSep_sep', bigSep_sep', bigSep_sep', bigSep_sep', bigSep_sep', bigSep_sep', bigSep_sep', bigSep_sep', bigSep_sep',
    bigSep_univ_equiv px_inv.toPerm (fun c : Dev nD => (dutyTok ER (barCell c) 0 0 : sProp 𝕄)),
    bigSep_univ_equiv py_inv.toPerm (fun c : Dev nD => (dutyTok ER (barCell c) 0 1 : sProp 𝕄)),
    bigSep_univ_equiv pz_inv.toPerm (fun c : Dev nD => (dutyTok ER (barCell c) 0 2 : sProp 𝕄)),
    over_peers (fun c j k => (dutyTok ER (qCell c (rq k j)) 0 0 : sProp 𝕄))]
  exact .rfl

/-! ## Dealing the cells -/

/-- What the launch's ghost element deals device `c`. -/
def G (c : Dev nD) : sProp 𝕄 :=
  iprop((bigSep Finset.univ fun o : Option (Fin 85) => roundState ER (sched m) (kcell (c, o)) 0)
    ∗ ((bigSep Finset.univ fun o : Option (Fin 85) => atPos ER (kcell (c, o)) 0 ∅ 0) ∗ bigSep Finset.univ fun o : Option (Fin 85) => reached ER (kcell (c, o)) 0)
    ∗ toks c)

/-- What device `c` alone holds of the cells at the start. -/
def lin (c : Dev nD) : sProp 𝕄 :=
  iprop((atPos ER (barCell c) 0 ∅ 0 ∗ dutyTok ER (barCell (px c)) 0 0 ∗ dutyTok ER (barCell (py c)) 0 1 ∗ dutyTok ER (barCell (pz c)) 0 2)
    ∗ (bigSep Finset.univ fun i : Fin 5 => locIdle c (lq i))
    ∗ bigSep Finset.univ fun j : Fin 8 => bigSep Finset.univ fun k : Fin 5 =>
        iprop(locIdle c (sq k j) ∗ dutyTok ER (qCell (peer k c) (rq k j)) 0 0 ∗ atPos ER (qCell c (rq k j)) 0 ∅ 0))

def G' (c : Dev nD) : sProp 𝕄 := iprop(recs m ∗ lin c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun o : Option (Fin 85) => Φ (kcell (c, o)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum]; rfl
  iintro HX
  imod (Rounds.fund ER (sched m) theCells theToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores, as the launch names them. -/
abbrev osem : Fin 85 → SemLoc sig := fun i => csem (some i)

theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

/-- On one device every cell's invariant is set up from its counter at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (sched m) κ (kcell (c, o))))
          ∗ ((bigSep Finset.univ fun o : Option (Fin 85) => atPos ER (kcell (c, o)) 0 ∅ 0) ∗ bigSep Finset.univ fun o : Option (Fin 85) => reached ER (kcell (c, o)) 0)
          ∗ toks c) := by
  unfold G
  rw [unscopedSems0_eq]
  iintro ⟨Hos, Hus, Hst, Hat, Htok⟩
  ihave Hv := (Entails.of_eq (all_sem (F := F) fun sm => semVal ((c : Thread nD τ), sm) 0).symm) $$ [Hos Hus]
  · isplitl [Hus]; · iexact Hus
    unfold Pipeline.ownSems0; iexact Hos
  imod (show iprop((bigSep Finset.univ fun o : Option (Fin 85) => semVal (kcell (c, o)) 0) ∗ bigSep Finset.univ fun o : Option (Fin 85) => roundState ER (sched m) (kcell (c, o)) 0)
      ⊢ (|={Set.univ}=> bigSep Finset.univ fun o => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

theorem lin_of (c : Dev nD) : iprop((bigSep Finset.univ fun o : Option (Fin 85) => atPos ER (kcell (c, o)) 0 ∅ 0) ∗ payToks c) ⊢ (lin c : sProp 𝕄) := by
  rw [all_sem (fun sm => atPos ER ((c : Thread nD τ), sm) 0 ∅ 0), all_q (fun sm => atPos ER ((c : Thread nD τ), sm) 0 ∅ 0)]
  unfold lin payToks locIdle
  simp only [bigSep_sep']
  iintro ⟨⟨Ab, Al, As, Ar⟩, Tb, Tl, Ts, Tr⟩
  isplitl [Ab Tb]
  · isplitl [Ab] <;> iassumption
  isplitl [Al Tl]
  · isplitl [Al] <;> iassumption
  isplitl [As Ts]
  · isplitl [As] <;> iassumption
  isplitl [Tr] <;> iassumption

theorem beside {I : Type} [Fintype I] [DecidableEq I] {R : sProp 𝕄} [BI.Persistent R] {Φ : I → sProp 𝕄} :
    iprop(R ∗ bigSep Finset.univ Φ) ⊢ (bigSep Finset.univ fun i => iprop(R ∗ Φ i) : sProp 𝕄) := by
  rw [bigSep_sep']
  exact sep_mono_left (BI.bigSep_of_persistent Finset.univ R)

/-- The records of all cells gathered for every device, the tokens dealt to their payers. -/
theorem regroup :
    (bigSep Finset.univ fun c : Dev nD => iprop((bigSep Finset.univ fun o => iprop(∃ κ : ℕ, cellInv ER (sched m) κ (kcell (c, o))))
          ∗ ((bigSep Finset.univ fun o : Option (Fin 85) => atPos ER (kcell (c, o)) 0 ∅ 0) ∗ bigSep Finset.univ fun o : Option (Fin 85) => reached ER (kcell (c, o)) 0)
          ∗ toks c) : sProp 𝕄)
      ⊢ bigSep Finset.univ (G' m) := by
  rw [bigSep_sep', bigSep_sep', bigSep_sep', ← bigSep_univ_prod (fun ck : Dev nD × Option (Fin 85) => iprop(∃ κ : ℕ, cellInv ER (sched m) κ (kcell ck))),
    ← bigSep_univ_prod (fun ck : Dev nD × Option (Fin 85) => (reached ER (kcell ck) 0 : sProp 𝕄))]
  iintro ⟨HI, ⟨Hat, HR⟩, Htok⟩
  ihave Htk := (toks_around (F := F)) $$ Htok
  iapply (show iprop(recs m ∗ bigSep Finset.univ fun c : Dev nD => (lin c : sProp 𝕄)) ⊢ bigSep Finset.univ (G' m) from beside)
  isplitl [HI HR]
  · unfold recs
    rw [bigSep_sep']
    isplitl [HI] <;> iassumption
  · iapply ((Entails.of_eq (bigSep_sep' Finset.univ (fun c : Dev nD => bigSep Finset.univ fun o : Option (Fin 85) => (atPos ER (kcell (c, o)) 0 ∅ 0 : sProp 𝕄)) payToks).symm).trans
      (bigSep_mono fun c _ => lin_of c))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem tally_other (A : CellTallies nD τ sig Unit) {g g' : GSem nD τ sig} (h : g ≠ g') (n : ℕ) : (A + tallyAt g' () n) g () = A g () := by
  rw [Pi.add_apply, Finsupp.add_apply, tallyAt_apply, if_neg (fun h' => h h'.1), Nat.add_zero]
theorem tally_same (A : CellTallies nD τ sig Unit) (g : GSem nD τ sig) (n : ℕ) : (A + tallyAt g () n) g () = A g () + n := by
  rw [Pi.add_apply, Finsupp.add_apply, tallyAt_apply, if_pos ⟨rfl, rfl⟩]

theorem bar_ne_q (a b : Dev nD) (q : DmaSem sig) : barCell a ≠ qCell b q := fun h => by
  have := congrArg Prod.snd h; cases this

theorem owed_bar (d c : Dev nD) (l : List (Fin 5 × Fin 8)) : owed d l (barCell c) () = 0 := by
  by_contra h
  obtain ⟨x, -, e⟩ := owed_pos (Nat.pos_of_ne_zero h)
  exact bar_ne_q _ _ _ e

theorem tally_bar (A : CellTallies nD τ sig Unit) (p : Dev nD → Dev nD) (hp : Function.Involutive p) (d c : Dev nD) :
    (A + tallyAt (barCell (p d)) () 1) (barCell c) () = A (barCell c) () + if d = p c then 1 else 0 := by
  by_cases h : d = p c
  · subst h; rw [hp c, tally_same, if_pos rfl]
  · rw [if_neg h, tally_other _ (fun e => h ?_), Nat.add_zero]
    have e1 : c = p d := congrArg (fun g : GSem nD τ sig => g.1.1) e
    rw [e1, hp d]

/-- What device `d` owes device `c`'s barrier. -/
theorem O₀_bar (d c : Dev nD) : O₀ d (barCell c) () = (if d = pz c then 1 else 0) + (if d = py c then 1 else 0) + (if d = px c then 1 else 0) := by
  unfold O₀
  rw [tally_bar _ px px_inv, tally_bar _ py py_inv, tally_bar _ pz pz_inv, owed_bar, Nat.zero_add]

theorem rq_cell_inj {a b : Dev nD} {x y : Fin 5 × Fin 8} (h : qCell a (rq x.1 x.2) = qCell b (rq y.1 y.2)) : a = b ∧ x = y := by
  refine ⟨congrArg (fun g : GSem nD τ sig => g.1.1) h, ?_⟩
  have h2 : rq x.1 x.2 = rq y.1 y.2 := SemLoc.dma.inj (congrArg Prod.snd h)
  have h3 := congrArg slot h2
  rw [slot_rq, slot_rq] at h3
  exact h3

/-- What device `d` owes a receive semaphore of device `c` for the transfers in `l`. -/
theorem owed_at (d c : Dev nD) (x : Fin 5 × Fin 8) (l : List (Fin 5 × Fin 8)) (hl : l.Nodup) :
    owed d l (qCell c (rq x.1 x.2)) () = if d = peer x.1 c ∧ x ∈ l then kAmt x.1 else 0 := by
  induction l with
  | nil => rw [if_neg (fun h => by simpa using h.2)]; rfl
  | cons y l ih =>
    have hy := List.nodup_cons.mp hl
    show (owed d l + tallyAt (qCell (peer y.1 d) (rq y.1 y.2)) () (kAmt y.1)) (qCell c (rq x.1 x.2)) () = _
    by_cases hxy : x = y
    · subst hxy
      have h0 : owed d l (qCell c (rq x.1 x.2)) () = 0 := by rw [ih hy.2, if_neg (fun h => hy.1 h.2)]
      by_cases hd : d = peer x.1 c
      · subst hd
        rw [peer_peer, tally_same, h0, Nat.zero_add, if_pos ⟨rfl, List.mem_cons_self⟩]
      · rw [tally_other _ (fun e => hd ?_), h0, if_neg (fun h => hd h.1)]
        rw [(rq_cell_inj e).1, peer_peer]
    · rw [tally_other _ (fun e => hxy (rq_cell_inj e).2), ih hy.2]
      have : (x ∈ y :: l) ↔ x ∈ l := by simp [hxy]
      simp only [this]

theorem order_nodup : order.Nodup := by decide
theorem order_all : ∀ x : Fin 5 × Fin 8, x ∈ order := by decide

theorem O₀_rq (d c : Dev nD) (k : Fin 5) (j : Fin 8) : O₀ d (qCell c (rq k j)) () = if d = peer k c then kAmt k else 0 := by
  unfold O₀
  rw [tally_other _ (bar_ne_q _ _ _).symm, tally_other _ (bar_ne_q _ _ _).symm, tally_other _ (bar_ne_q _ _ _).symm,
    owed_at d c (k, j) order order_nodup]
  simp only [order_all (k, j), and_true]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ (px c) fun _ => 1, Finset.sum_ite_eq' Finset.univ (py c) fun _ => 1, Finset.sum_ite_eq' Finset.univ (pz c) fun _ => 1,
    if_pos (Finset.mem_univ _), if_pos (Finset.mem_univ _), if_pos (Finset.mem_univ _)]

theorem launch_rq (c : Dev nD) (k : Fin 5) (j : Fin 8) :
    tallyOn (qCell c (rq k j)) (launchCredit (Pipeline.owing O₀) 0 (qCell c (rq k j))) = (tallyAt (qCell c (rq k j)) () (amt (rq k j)) : CellTallies nD τ sig Unit) := by
  unfold tallyAt; refine congrArg _ (Finsupp.ext fun u => ?_); cases u
  rw [Pipeline.launchCredit_owing, Finsupp.single_eq_same, Finset.sum_congr rfl fun d _ => O₀_rq d c k j, Finset.sum_ite_eq' Finset.univ (peer k c) fun _ => kAmt k,
    if_pos (Finset.mem_univ _), amt_rq]

/-- The credits for what the neighbours will send device `c`. -/
def creds (c : Dev nD) : sProp 𝕄 :=
  iprop(cred (tallyAt (barCell c) () 3) ∗ bigSep Finset.univ fun j : Fin 8 => bigSep Finset.univ fun k : Fin 5 => cred (tallyAt (qCell c (rq k j)) () (amt (rq k j))))

theorem creds_of (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map]
  refine (Entails.of_eq (all_sem (F := F) fun sm => cred (tallyOn ((c : Thread nD τ), sm) (launchCredit (Pipeline.owing O₀) 0 ((c : Thread nD τ), sm))))).trans ?_
  rw [all_q (fun sm => cred (tallyOn ((c : Thread nD τ), sm) (launchCredit (Pipeline.owing O₀) 0 ((c : Thread nD τ), sm)))), launch_bar]
  simp only [launch_rq]
  iintro ⟨Hb, -, -, Hr⟩
  isplitl [Hb] <;> iassumption

end Cert.KernelProof

end
-- ==== Proof.Launch.lean ====
/- The run of the whole program: from any memory with zero counters every execution ends with the result array of each device at `FO`,
   the arguments as they were and every semaphore counter at zero. -/
module

public import proofs.«01_k».proof.Proof.Deal
public import proofs.«01_k».proof.Proof.Gen.KernelIdeal.Points
public import Idealize.ShloMosaic.Lib.Pipeline.Launch

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Memory before the run: any contents, all counters zero. -/
abbrev s₀ : MemSt nD τ sig (Elt F) := ⟨m, fun _ => 0, ρ⟩

/-! ## What a device holds before and after its body -/

/-- What a device starts from, without the scratch buffers. -/
def start (c : Dev nD) : sProp 𝕄 :=
  iprop((recs m ∗ levAts L lv) ∗ lin c ∗ creds c ∗ whole c main_arg0 (dyArg m c) ∗ whole c main_arg1 (wArg m c))

/-- The four scratch buffers at some contents. -/
def scratch (c : Dev nD) : sProp 𝕄 :=
  iprop((∃ f, whole c cc0_scratch0 f) ∗ (∃ f, whole c cc0_scratch1 f) ∗ (∃ f, whole c cc0_scratch2 f) ∗ (∃ f, whole c cc0_scratch3 f))

/-- Every semaphore of a copy at zero. -/
def quiet (c : Dev nD) : sProp 𝕄 := bigSep Finset.univ fun i : Fin 85 => semVal ((c : Thread nD τ), osem i) 0

def Φ₀ (c : Dev nD) : sProp 𝕄 := iprop(start m c ∗ scratch c)
def Φ₁ (c : Dev nD) : sProp 𝕄 :=
  iprop((whole c main_arg0 (dyArg m c) ∗ whole c main_arg1 (wArg m c)) ∗ scratch c ∗ quiet c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => FO m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

/-! ## From what the launch deals to what the stages take, and back -/

/-- The first local copy, then the four of the rows of `W`. -/
theorem lq_split (Φ : Fin 5 → sProp 𝕄) : bigSep Finset.univ Φ = iprop(Φ 0 ∗ bigSep Finset.univ fun g : Fin 4 => Φ g.succ) := by
  rw [fin5, fin4]; rfl

theorem idle_of (c : Dev nD) (j : Fin 8) (k : Fin 5) :
    iprop((locIdle c (sq k j) ∗ dutyTok ER (qCell (peer k c) (rq k j)) 0 0 ∗ atPos ER (qCell c (rq k j)) 0 ∅ 0)
      ∗ cred (tallyAt (qCell c (rq k j)) () (amt (rq k j)))) ⊢ (idle c k j : sProp 𝕄) := by
  unfold idle waiting
  iintro ⟨⟨H1, H2, H3⟩, H4⟩
  isplitl [H1]; · iexact H1
  isplitl [H2]; · iexact H2
  isplitl [H3] <;> iassumption

theorem idles_of (c : Dev nD) (j : Fin 8) :
    iprop((bigSep Finset.univ fun k : Fin 5 => iprop(locIdle c (sq k j) ∗ dutyTok ER (qCell (peer k c) (rq k j)) 0 0 ∗ atPos ER (qCell c (rq k j)) 0 ∅ 0))
      ∗ bigSep Finset.univ fun k : Fin 5 => cred (tallyAt (qCell c (rq k j)) () (amt (rq k j)))) ⊢ (bigSep Finset.univ fun k : Fin 5 => idle c k j : sProp 𝕄) := by
  rw [← bigSep_sep']
  exact each fun k => idle_of c j k

theorem mine_of (c : Dev nD) (j : Fin 8) :
    iprop(((bigSep Finset.univ fun k : Fin 5 => iprop(locIdle c (sq k j) ∗ dutyTok ER (qCell (peer k c) (rq k j)) 0 0 ∗ atPos ER (qCell c (rq k j)) 0 ∅ 0))
        ∗ bigSep Finset.univ fun k : Fin 5 => cred (tallyAt (qCell c (rq k j)) () (amt (rq k j))))
      ∗ (∃ f, bufPts c 0 j f) ∗ (∃ f, bandPts c (ownBand c j) fullShare f)) ⊢ (mine c j : sProp 𝕄) := by
  refine (sep_mono_left (idles_of c j)).trans ?_
  rw [fin5]
  unfold mine
  iintro ⟨⟨H0, H1, H2, H3, H4⟩, Hb, Hd⟩
  isplitl [H0]; · iexact H0
  isplitl [H1]; · iexact H1
  isplitl [H2]; · iexact H2
  isplitl [H3]; · iexact H3
  isplitl [H4]; · iexact H4
  isplitl [Hb] <;> iassumption

theorem mines_of (c : Dev nD) :
    iprop((bigSep Finset.univ fun j : Fin 8 => bigSep Finset.univ fun k : Fin 5 => iprop(locIdle c (sq k j) ∗ dutyTok ER (qCell (peer k c) (rq k j)) 0 0 ∗ atPos ER (qCell c (rq k j)) 0 ∅ 0))
      ∗ (bigSep Finset.univ fun j : Fin 8 => bigSep Finset.univ fun k : Fin 5 => cred (tallyAt (qCell c (rq k j)) () (amt (rq k j))))
      ∗ (bigSep Finset.univ fun j : Fin 8 => iprop(∃ f, bufPts c 0 j f))
      ∗ bigSep Finset.univ fun j : Fin 8 => iprop(∃ f, bandPts c (ownBand c j) fullShare f)) ⊢ (bigSep Finset.univ (mine c) : sProp 𝕄) := by
  refine BIBase.Entails.trans ?_ (each fun j => mine_of c j)
  rw [bigSep_sep', bigSep_sep', bigSep_sep']
  iintro ⟨H1, H2, H3, H4⟩
  isplitl [H1 H2]
  · isplitl [H1] <;> iassumption
  isplitl [H3] <;> iassumption

theorem wIns_of (c : Dev nD) :
    iprop((bigSep Finset.univ fun g : Fin 4 => locIdle c (lq g.succ)) ∗ (bigSep Finset.univ fun g : Fin 4 => wPts c g (wArg m c))
      ∗ bigSep Finset.univ fun g : Fin 4 => iprop(∃ f, wfPts c g f)) ⊢ iprop(wIn m c 0 ∗ wIn m c 1 ∗ wIn m c 2 ∗ wIn m c 3) := by
  rw [← fin4, ← bigSep_sep', ← bigSep_sep']
  exact .rfl

/-- What the stages take, from what the launch deals and the pieces of the buffers. -/
theorem enter (c : Dev nD) :
    iprop(lin c ∗ creds c ∗ placed m c ∗ ∃ W, owes c (O₀ c) W) ⊢ iprop((sPre m c ∗ bigSep Finset.univ (mine c)) ∗ dyRest c (dyArg m c)) := by
  unfold lin creds placed sPre barIdle
  rw [lq_split]
  iintro ⟨⟨⟨Ab, Tx, Ty, Tz⟩, ⟨Ldy, Lw⟩, Lx⟩, ⟨Cb, Cx⟩, ⟨Pb, ⟨Hdy, Hrest, Hdyf⟩, ⟨Hw, Hwf⟩, Hdyb, Hbuf, Hband⟩, Ho⟩
  isplitr [Hrest]
  · isplitr [Lx Cx Hbuf Hband]
    · isplitl [Ab Tx Ty Tz Cb]
      · isplitl [Ab]; · iexact Ab
        isplitl [Cb]; · iexact Cb
        isplitl [Tx]; · iexact Tx
        isplitl [Ty] <;> iassumption
      isplitl [Pb]; · iexact Pb
      isplitl [Ldy Hdy Hdyf]
      · isplitl [Ldy]; · iexact Ldy
        isplitl [Hdy] <;> iassumption
      isplitl [Lw Hw Hwf]
      · iapply (wIns_of m c)
        isplitl [Lw]; · iexact Lw
        isplitl [Hw] <;> iassumption
      isplitl [Hdyb]; · iexact Hdyb
      iexact Ho
    · iapply (mines_of c)
      isplitl [Lx]; · iexact Lx
      isplitl [Cx]; · iexact Cx
      isplitl [Hbuf] <;> iassumption
  · iexact Hrest

theorem wDones (c : Dev nD) : iprop(wDone m c 0 ∗ wDone m c 1 ∗ wDone m c 2 ∗ wDone m c 3)
    ⊢ iprop((bigSep Finset.univ fun g => iprop(wfPts c g (WF m c) ∗ wPts c g (wArg m c))) ∗ bigSep Finset.univ fun g : Fin 4 => semVal (qCell c (lq g.succ)) 0) := by
  rw [← fin4, ← bigSep_sep']
  refine each fun g => ?_
  unfold wDone
  iintro ⟨H1, H2, H3⟩
  isplitr [H3]
  · isplitl [H1] <;> iassumption
  iexact H3

theorem overs_split (c : Dev nD) (j : Fin 8) :
    (overs c j : sProp 𝕄) ⊢ iprop((bigSep Finset.univ fun k : Fin 5 => semVal (qCell c (sq k j)) 0) ∗ bigSep Finset.univ fun k : Fin 5 => semVal (qCell c (rq k j)) 0) := by
  unfold overs over
  rw [← bigSep_sep', fin5]

theorem quiet_of (c : Dev nD) :
    iprop(semVal (qCell c (lq 0)) 0 ∗ (bigSep Finset.univ fun g : Fin 4 => semVal (qCell c (lq g.succ)) 0) ∗ bigSep Finset.univ (overs c)) ⊢ (quiet c : sProp 𝕄) := by
  unfold quiet
  refine BIBase.Entails.trans ?_ (Entails.of_eq (all_q (F := F) fun sm => semVal ((c : Thread nD τ), sm) 0).symm)
  rw [lq_split, ← bigSep_sep']
  iintro ⟨H1, H2, H3⟩
  isplitl [H1 H2]
  · isplitl [H1] <;> iassumption
  iapply (each fun j => overs_split c j) $$ H3

theorem leave (c : Dev nD) : iprop(bPost m c ∗ dyRest c (dyArg m c)) ⊢ iprop(Φ₁ m c ∗ whole c cc0_stg0_0 (FO m c) ∗ ∃ W, owes c 0 W) := by
  unfold bPost Φ₁ scratch
  iintro ⟨⟨Hb, ⟨Hdyf, Hdy, Hl⟩, Hw, Hdyb, Hst, Ho⟩, Hrest⟩
  ihave Hw := (wDones m c) $$ Hw
  icases Hw with ⟨Hw, Hlw⟩
  ihave H := (places_out m c) $$ [Hrest Hdyf Hdy Hw Hdyb Hst]
  · isplitl [Hrest]; · iexact Hrest
    isplitl [Hdyf Hdy]
    · isplitl [Hdyf] <;> iassumption
    isplitl [Hw]; · iexact Hw
    isplitl [Hdyb] <;> iassumption
  unfold ended
  icases H with ⟨⟨H0, H1, Hs, Hx0, Hx1, Hx2, Hx3⟩, Hov⟩
  isplitr [Hs Ho]
  · isplitl [H0 H1]
    · isplitl [H0] <;> iassumption
    isplitl [Hx0 Hx1 Hx2 Hx3]
    · isplitl [Hx0]; · iexists _; iexact Hx0
      isplitl [Hx1]; · iexists _; iexact Hx1
      isplitl [Hx2]; · iexists _; iexact Hx2
      iexists _; iexact Hx3
    isplitr [Hb]
    · iapply (quiet_of c)
      isplitl [Hl]; · iexact Hl
      isplitl [Hlw] <;> iassumption
    iexact Hb
  · isplitl [Hs] <;> iassumption

/-! ## The body -/

/-- The body on device `c`, from what the launch hands it to what it hands back. -/
theorem body_run (c : Dev nD) (f : Buf (Elt F) ((c : Thread nD τ).loc cc0_stg0_0)) (Q : PUnit → sProp 𝕄) :
    iprop(Φ₀ m c ∗ (∃ W, owes c (O₀ c) W) ∗ whole c cc0_stg0_0 f) ⊢ iprop((iprop(Φ₁ m c ∗ whole c cc0_stg0_0 (FO m c) ∗ ∃ W, owes c 0 W) -∗ Q ⟨⟩) -∗ WP c bodyAt Q) := by
  unfold Φ₀ start scratch
  iintro ⟨⟨⟨#Hctx, Hlin, Hcr, H0, H1⟩, X0, X1, X2, X3⟩, Ho, Hs⟩ HK
  ihave Hp := (places_in m c) $$ [H0 H1 Hs X0 X1 X2 X3]
  · isplitl [H0]; · iexact H0
    isplitl [H1]; · iexact H1
    isplitl [Hs]; · iexists f; iexact Hs
    isplitl [X0]; · iexact X0
    isplitl [X1]; · iexact X1
    isplitl [X2] <;> iassumption
  ihave He := (enter m c) $$ [Hlin Hcr Hp Ho]
  · isplitl [Hlin]; · iexact Hlin
    isplitl [Hcr]; · iexact Hcr
    isplitl [Hp] <;> iassumption
  icases He with ⟨⟨Hs, Hm⟩, Hrest⟩
  rw [body_eq]
  simp only [Prog.lift, Prog.bind_op, Prog.bind_ret, wp_deviceId]
  iapply (stages_spec m c (K := fun _ : PUnit.{1} => Prog.ret ⟨⟩)) $$ [Hs Hm]
  · isplitr
    · unfold ctx; iexact Hctx
    isplitl [Hs] <;> iassumption
  iintro Hpost
  unfold WP
  rw [wp_ret]
  imodintro
  iapply HK
  iapply (leave m c)
  isplitl [Hpost] <;> iassumption

abbrev stg (c : Dev nD) (b : Ref sig .tc) (X : b.ty.Contents (Elt F)) : sProp 𝕄 :=
  iprop(∃ f : Buf (Elt F) ((c : Thread nD τ).loc b), ⌜f = X⌝ ∗ whole c b f)

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (FO m c))

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c bodyAt (fun _ => bodyPost m ρ c)
  unfold bodyPre
  iintro ⟨HΦ, Ho, %d, %f, %hf, Hs⟩
  unfold Dat.owesAt Pipeline.owesWithin
  icases Ho with ⟨%W, %hW, Ho⟩
  iapply (body_run m c f (fun _ => bodyPost m ρ c)) $$ [HΦ Ho Hs]
  · isplitl [HΦ]; · iexact HΦ
    isplitl [Ho]
    · iexists W; iexact Ho
    iexact Hs
  iintro ⟨HΦ, Hs, %W', Ho⟩
  unfold bodyPost Dat.owesAt Pipeline.owesWithin
  isplitl [HΦ]; · iexact HΦ
  isplitl [Ho]
  · iexists W'
    isplitr
    · ipureintro; exact fun _ _ => Or.inl trivial
    iexact Ho
  iexists _; isplitr
  · ipureintro; rfl
  iexact Hs

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf theCells theToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H0, H1⟩, Hlev, Hcr, -, HG⟩
  ihave Hc := (creds_of (F := F) c) $$ Hcr
  imodintro
  unfold start G'
  icases HG with ⟨Hr, Hl⟩
  isplitl
  · isplitl [Hr Hlev]
    · isplitl [Hr] <;> iassumption
    isplitl [Hl]; · iexact Hl
    isplitl [Hc]; · iexact Hc
    isplitl [H0]
    · iexact H0
    iexact H1
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What is read at the end: the arguments and the barrier. -/
def rest (c : Dev nD) : sProp 𝕄 := iprop((whole c main_arg0 (dyArg m c) ∗ whole c main_arg1 (wArg m c)) ∗ unscopedSems0 c)

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq]
  unfold Φ₁ rest
  rw [unscopedSems0_eq]
  iintro ⟨Ha, Hx, Hq, Hb⟩
  isplitl [Ha Hb]
  · isplitl [Ha] <;> iassumption
  isplitl [Hq]
  · unfold Pipeline.ownSems0; unfold quiet; iexact Hq
  unfold scratch; iexact Hx

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w; fin_cases s; decide) _ (by
      rcases t with ⟨_ | _, ht⟩
      · exact Or.inl rfl
      · exact Or.inr rfl)

def stays (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_rest (c : Dev nD) (s' : Phys nD τ sig (Elt F)) :
    iprop(rest m c ∗ emp ∗ SI s') ⊢ (|={Set.univ}=> iprop(⌜stays m c s'.mem⌝ ∗ SI s') : sProp 𝕄) := by
  unfold rest
  iintro ⟨⟨⟨H0, H1⟩, Hu⟩, -, HSI⟩
  icombine HSI H0 gives %h0
  icombine HSI H1 gives %h1
  have h0' : s'.mem.mem ((c : Thread nD τ).loc main_arg0) = dyArg m c := Buf.eq_of_forall_mem_univ h0
  have h1' : s'.mem.mem ((c : Thread nD τ).loc main_arg1) = wArg m c := Buf.eq_of_forall_mem_univ h1
  imod (Pipeline.unscopedSems0_read (X := unscopedSems0 c) (c := c) fupd_intro s') $$ [Hu HSI] with ⟨%hs, HSI⟩
  · isplitl [Hu] <;> iassumption
  imodintro
  isplitr
  · ipureintro; exact ⟨⟨h0', h1'⟩, hs⟩
  iexact HSI

def finalA (c : Dev nD) (w : Fin cfg0.W) : Buf (Elt F) ((cfg0.win w).arr.view.loc (c : Thread nD τ)) := (dats m ρ 0 c).arrAt w cfg0.N

/-- What every final state is. -/
def QC : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1))
  ∧ r.2.sem = fun _ => 0

set_option maxRecDepth 65536 in
theorem run_all : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m ρ) (hout := phi1_exit m ρ)
    (QY := stays m)
    (hY := read_rest m)
    (hQ := fun _ h hs => ⟨fun c => ⟨(h c).1, (h c).2.2.1⟩, sem_eq_zero hs fun c => (h c).2.2.2⟩)

/-- The result array after the run. -/
theorem finalA_eq (c : Dev nD) : finalA m ρ c (0 : Fin 1) = FO m c := by
  unfold finalA
  have h := (dats m ρ 0 c).arrAt_succ (0 : Fin 1) t0_0
  rw [flush0_0, if_pos rfl] at h
  have h2 : (dats m ρ 0 c).flushed (0 : Fin 1) t0_0 = FO m c := rfl
  rw [h2] at h
  refine Eq.trans h ?_
  refine (View.write_whole_slice_unit main_v1 _ _ _ _ _).trans ?_
  funext i
  unfold updateSlice
  have hb : ∀ a, (i a).val < 1024 := fun a => by fin_cases a <;> exact (i _).isLt
  rw [dif_pos (fun a => by
    fin_cases a <;> exact ⟨Nat.zero_le _, Nat.lt_of_lt_of_eq (hb _) rfl⟩)]
  refine congrArg (FO m c) (funext fun a => Fin.ext ?_)
  fin_cases a <;> rfl

/-- Every execution ends with the result at `FO`, the arguments unchanged and the counters at zero. -/
theorem run_main : θ_run defs (onTc (τ := τ) (main (F := F))) (s₀ m ρ) (fun r =>
    (∀ c : Dev nD, r.2.mem ((c : Thread nD τ).loc main_v1) = FO m c
      ∧ r.2.mem ((c : Thread nD τ).loc main_arg0) = m ((c : Thread nD τ).loc main_arg0) ∧ r.2.mem ((c : Thread nD τ).loc main_arg1) = m ((c : Thread nD τ).loc main_arg1))
    ∧ r.2.sem = fun _ => 0) :=
  (θ_run defs _ _).mono (fun r h => ⟨fun c => ⟨((h.1 c).1 0).trans (finalA_eq m ρ c), (h.1 c).2⟩, h.2⟩) (run_all m ρ)

end Cert.KernelProof

end
-- ==== Proof.Same.lean ====
/- The kernel as compiled and the kernel's ideal reading are the same program. -/
module

public import proofs.«01_k».proof.Proof.Gen.Kernel
public import proofs.«01_k».proof.Proof.Gen.KernelIdeal

@[expose] public section

noncomputable section

namespace Cert.KernelProof

open Idealize.ShloMosaic Idealize.SL.Sem

variable {F : FTy → Type} [FloatOps F]

set_option maxRecDepth 100000 in
theorem same_bodies : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

set_option maxRecDepth 100000 in
/-- The two tables of bodies agree. -/
theorem same_defs : Cert.Kernel.defs (F := F) = Cert.KernelIdeal.defs (F := F) :=
  congrArg (Pipeline.defs Cert.KernelIdeal.pcfgs) same_bodies

set_option maxRecDepth 100000 in
/-- What every execution of one satisfies, every execution of the other satisfies. -/
theorem same_run (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun d => (θ_run d (onTc (τ := Cert.Kernel.τ) (Cert.Kernel.main (F := F))) s Q)) (same_defs (F := F))).mpr h

end Cert.KernelProof

end
-- ==== Proof.Value.lean ====
/- What the kernel leaves as its result when floats are extended reals: the whole product. Each device's half is a sum
   over its 4096 positions of the contracted axis, and a device and its `y` neighbour hold the two halves of that axis. -/
module

public import proofs.«01_k».proof.Proof.Mesh
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelProof

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ)

/-! ## One device's half -/

/-- The float zero the product starts from. -/
theorem zero_word (x : S256x256.Idx) : (constant S256x256 .f32 0x00000000#32 : FVec Ideal S256x256 .f32) x = 0 := by
  show Ideal.ofBits .f32 0 = 0
  simp [Ideal.ofBits, Ideal.ieee]

/-- A product of a quarter of the weights: the sum over the device's positions of the contracted axis. -/
theorem prod_at (w : Vec Ideal S1x256x4096 .f32) (a : FVec Ideal S256x4096 .bf16) (r l : Fin 256) :
    k0_pay2 (F := Ideal) w a (ix2 r l) = ∑ k : Fin 4096, (a (ix2 r k) * w (ix3 (0 : Fin 1) l k) : EReal) := by
  refine (Ideal.matmul_transposedRhs_apply (M := 256) (K := 4096) (N := 256) none a
    (truncf (F := Ideal) .bf16 (shapeCast S256x4096 w shapeCasts_S1x256x4096_S256x4096) bitsLt_bf16_f32)
    (constant S256x256 .f32 0x00000000#32) r l).trans ?_
  rw [zero_word]
  refine (zero_add _).trans (Finset.sum_congr rfl fun k _ => congrArg (fun z : EReal => (a (ix2 r k) : EReal) * z) ?_)
  refine (shapeCast_dropUnit_apply (α := EReal) ![256, 4096] w shapeCasts_S1x256x4096_S256x4096 (ix2 l k)).trans
    (congrArg w (funext fun b => ?_))
  fin_cases b <;> rfl

/-- The row of `dy` that row `r` of device `c`'s block is. -/
def rowOf (c : Dev nD) (r : Fin 256) : Fin 1024 :=
  ⟨512 * (c.val / 4) + 256 * (c.val % 2) + r.val, by have := dev_lt c; have := r.isLt; omega⟩
/-- The row of the weights that column `l` of chunk `j` is. -/
def colOf (j : Fin 8) (l : Fin 128) : Fin 1024 :=
  ⟨128 * j.val + l.val, by have := j.isLt; have := l.isLt; omega⟩

/-- Device `c`'s rows of `dy`. -/
theorem DYB_at (c : Dev nD) (r : Fin 256) (k : Fin 4096) : DYB m c (ix2 r k) = dyArg m c (ix2 (rowOf c r) k) := by
  unfold DYB k0_pay1
  rw [shapeCast_self]
  show dyArg m c ((dyRows c).view.emb (ix2 r k)) = _
  congr 1
  have hv : ∀ a, ((dyRows c).view.emb (ix2 r k) a : Nat) = k0_off1 c a + ((ix2 r k : S256x4096.Idx) a).val :=
    fun a => ValueKit.rect_emb_unit_val (s := S1024x4096) (k0_off1 c) S256x4096.size (k0_off1_inb c) (ix2 r k) a
  funext a
  apply Fin.ext
  refine (hv a).trans ?_
  rw [k0_off1_eq c]
  fin_cases a
  · rfl
  · exact Nat.zero_add _

/-- A quarter of the weights. -/
theorem WQ_at (c : Dev nD) (g : Fin 4) (l : Fin 256) (k : Fin 4096) (i : Fin 1024) (hi : i.val = 256 * g.val + l.val) :
    WQ m c g (ix3 (0 : Fin 1) l k) = wArg m c (ix2 i k) := by
  unfold WQ
  rw [View.readAt_rect]
  show WF m c ((wfRect g).emb (ix3 (0 : Fin 1) l k)) = _
  have hv : ∀ a, ((wfRect g).emb (ix3 (0 : Fin 1) l k) a : Nat) = (![g.val, 0, 0] : Fin 3 → ℕ) a + ((ix3 (0 : Fin 1) l k : S1x256x4096.Idx) a).val :=
    fun a => ValueKit.rect_emb_unit_val (s := S4x256x4096) ![g.val, 0, 0] S1x256x4096.size (wf_inb g) _ a
  have h0 : ((wfRect g).emb (ix3 (0 : Fin 1) l k) 0 : Nat) = g.val := (hv 0).trans (Nat.add_zero _)
  have h1 : ((wfRect g).emb (ix3 (0 : Fin 1) l k) 1 : Nat) = l.val := (hv 1).trans (Nat.zero_add _)
  have h2 : ((wfRect g).emb (ix3 (0 : Fin 1) l k) 2 : Nat) = k.val := (hv 2).trans (Nat.zero_add _)
  unfold WF
  congr 1
  funext a
  apply Fin.ext
  fin_cases a
  · show 256 * ((wfRect g).emb (ix3 (0 : Fin 1) l k) 0 : Nat) + ((wfRect g).emb (ix3 (0 : Fin 1) l k) 1 : Nat) = i.val
    rw [h0, h1, hi]
  · exact h2

/-- One device's half at an element. -/
def half (c : Dev nD) (r c' : Fin 1024) : EReal := ∑ k : Fin 4096, (dyArg m c (ix2 r k) * wArg m c (ix2 c' k) : EReal)

/-- A column of the product of a quarter. -/
theorem quarter_at (c : Dev nD) (j : Fin 8) (r l : Fin 256) (i : Fin 1024) (hi : i.val = 256 * (quarter j).val + l.val) :
    k0_pay2 (F := Ideal) (WQ m c (quarter j)) (DYB m c) (ix2 r l) = half m c (rowOf c r) i := by
  rw [prod_at]
  exact Finset.sum_congr rfl fun k _ => by rw [DYB_at, WQ_at m c (quarter j) l k i hi]

/-- The first and the second 128 columns of a product. -/
theorem left_at (v : FVec Ideal S256x256 .f32) (r : Fin 256) (l : Fin 128) (q : Fin 256) (hq : q.val = l.val) :
    extractStridedSlice S256x128 ![0, 0] v slices_S256x256_o0_0_S256x128 (ix2 r l) = v (ix2 r q) := by
  refine extractStridedSlice_apply (s := S256x256) (t := S256x128) ![0, 0] v slices_S256x256_o0_0_S256x128 (ix2 r l) (ix2 r q) fun a => ?_
  match a with
  | ⟨0, _⟩ => exact (Nat.zero_add _).symm
  | ⟨1, _⟩ => exact hq.trans (Nat.zero_add _).symm
theorem right_at (v : FVec Ideal S256x256 .f32) (r : Fin 256) (l : Fin 128) (q : Fin 256) (hq : q.val = 128 + l.val) :
    extractStridedSlice S256x128 ![0, 128] v slices_S256x256_o0_128_S256x128 (ix2 r l) = v (ix2 r q) := by
  refine extractStridedSlice_apply (s := S256x256) (t := S256x128) ![0, 128] v slices_S256x256_o0_128_S256x128 (ix2 r l) (ix2 r q) fun a => ?_
  match a with
  | ⟨0, _⟩ => exact (Nat.zero_add _).symm
  | ⟨1, _⟩ => exact hq

/-- Device `c`'s half at chunk `j`. -/
theorem P_at (c : Dev nD) (j : Fin 8) (r : Fin 256) (l : Fin 128) : P m c j (ix2 r l) = half m c (rowOf c r) (colOf j l) := by
  have hl := l.isLt
  unfold P
  split
  · unfold k0_pay3
    refine (left_at _ r l ⟨l.val, by omega⟩ rfl).trans ?_
    exact quarter_at m c j r _ _ (by show 128 * j.val + l.val = 256 * (j.val / 2) + l.val; omega)
  · unfold k0_pay5
    refine (right_at _ r l ⟨128 + l.val, by omega⟩ rfl).trans ?_
    exact quarter_at m c j r _ _ (by show 128 * j.val + l.val = 256 * (j.val / 2) + (128 + l.val); omega)

/-- What is sent is the half itself. -/
theorem T_is (c : Dev nD) (j : Fin 8) :
    T m c j = shapeCast S1x1x256x128 (truncf (F := Ideal) .bf16 (P m c j) bitsLt_bf16_f32) shapeCasts_S256x128_S1x1x256x128 := by
  unfold T P
  split <;> rfl

/-- The two halves put together. -/
theorem O_at (c : Dev nD) (j : Fin 8) (r : Fin 256) (l : Fin 128) :
    O m c j (ix2 r l) = (half m c (rowOf c r) (colOf j l) + half m (py c) (rowOf c r) (colOf j l) : EReal) := by
  unfold O k0_pay17
  rw [T_is, shapeCast_shapeCast]
  show (P m c j (ix2 r l) + P m (py c) j (ix2 r l) : EReal) = _
  rw [P_at, P_at]
  have hr : rowOf (py c) r = rowOf c r := by
    apply Fin.ext
    have := dev_lt c
    simp only [rowOf, py_val]
    omega
  rw [hr]

/-- A pair of coordinates as an index. -/
theorem pair_is {n0 n1 : ℕ} (a : Fin n0) (b : Fin n1) : Shape.pair (d := ![n0, n1]) a b = ix2 a b := by
  funext d
  match d with
  | ⟨0, _⟩ => rfl
  | ⟨1, _⟩ => rfl

/-- The result at an element. -/
theorem FO_at (c : Dev nD) (i j : Fin 1024) :
    FO m c (ix2 i j) = (half m (src c (i.val / 256)) i j + half m (py (src c (i.val / 256))) i j : EReal) := by
  have hi := i.isLt
  have hj := j.isLt
  have hr : rowOf (src c (i.val / 256)) ⟨i.val % 256, Nat.mod_lt _ (by decide)⟩ = i := by
    apply Fin.ext
    simp only [rowOf, src]
    omega
  have hc : colOf ⟨j.val / 128, by omega⟩ ⟨j.val % 128, Nat.mod_lt _ (by decide)⟩ = j := by
    apply Fin.ext
    simp only [colOf]
    omega
  refine (congrArg (O m (src c (i.val / 256)) ⟨j.val / 128, by omega⟩) (pair_is (n0 := 256) (n1 := 128)
    ⟨i.val % 256, Nat.mod_lt _ (by decide)⟩ ⟨j.val % 128, Nat.mod_lt _ (by decide)⟩)).trans ?_
  refine (O_at m (src c (i.val / 256)) ⟨j.val / 128, by omega⟩ ⟨i.val % 256, Nat.mod_lt _ (by decide)⟩
    ⟨j.val % 128, Nat.mod_lt _ (by decide)⟩).trans ?_
  rw [hr, hc]

/-! ## The two halves of the contracted axis -/

/-- Position `k` of half `h` of the contracted axis. -/
def posOf (h : ℕ) (hh : h < 2) (k : Fin 4096) : Fin 8192 := ⟨4096 * h + k.val, by have := k.isLt; omega⟩

/-- A sum over the whole contracted axis is the sum over its lower and the sum over its upper half. -/
theorem sum_halves (f : Fin 8192 → EReal) :
    ∑ k : Fin 8192, f k = (∑ k : Fin 4096, f (posOf 0 (by decide) k)) + ∑ k : Fin 4096, f (posOf 1 (by decide) k) := by
  refine (Fin.sum_univ_add (a := 4096) (b := 4096) f).trans (congrArg₂ (· + ·) ?_ ?_)
  · exact Finset.sum_congr rfl fun k _ => congrArg f (Fin.ext (by show k.val = 4096 * 0 + k.val; omega))
  · exact Finset.sum_congr rfl fun k _ => congrArg f (Fin.ext (by show 4096 + k.val = 4096 * 1 + k.val; omega))

/-- The block coordinates of a device: an array that is cut in two along its columns by the second mesh axis. -/
theorem col_block (c : Dev nD) : Layout.meshLin [2, 2, 2] c.val [1] = c.val / 2 % 2 := by revert c; decide

/-- A device's block of an array that is cut in two along its columns. -/
theorem block_at (v : (⟨2, ![1024, 8192]⟩ : Shape).Idx → EReal) (c : Dev nD)
    (hl : ∀ b, ∀ i ∈ (![[], [1]] : Fin 2 → List ℕ) b, 0 < [2, 2, 2].getD i 0)
    (ht : Layout.TilesN ⟨2, ![1024, 4096]⟩ ⟨2, ![1024, 8192]⟩ fun b => Layout.cutSize [2, 2, 2] ((![[], [1]] : Fin 2 → List ℕ) b))
    (h : ℕ) (hh : h < 2) (hc : c.val / 2 % 2 = h) (i : Fin 1024) (k : Fin 4096) :
    Layout.blockN ⟨2, ![1024, 4096]⟩ ⟨2, ![1024, 8192]⟩ (Layout.meshBlock [2, 2, 2] ![[], [1]] c hl) v ht (ix2 i k)
      = v (ix2 i (posOf h hh k)) := by
  rw [Layout.blockN_apply]
  refine congrArg v (funext fun a => Fin.ext ((Layout.TilesN.idx_val ht _ _ a).trans ?_))
  have e1 : (Layout.meshBlock [2, 2, 2] (![[], [1]] : Fin 2 → List ℕ) c hl 1).val = h :=
    (Layout.meshBlock_val _ _ c hl 1).trans ((col_block c).trans hc)
  have e0 : (Layout.meshBlock [2, 2, 2] (![[], [1]] : Fin 2 → List ℕ) c hl 0).val = 0 := rfl
  match a with
  | ⟨0, _⟩ => exact (congrArg (fun z : ℕ => z * 1024 + i.val) e0).trans (by show 0 * 1024 + i.val = i.val; omega)
  | ⟨1, _⟩ => exact (congrArg (fun z : ℕ => z * 4096 + k.val) e1).trans (by show h * 4096 + k.val = 4096 * h + k.val; omega)

/-- One device's half, of the whole arrays: the sum over half `h` of the contracted axis. -/
theorem half_at (A B : (⟨2, ![1024, 8192]⟩ : Shape).Idx → EReal) (c : Dev nD) (h : ℕ) (hh : h < 2) (hc : c.val / 2 % 2 = h)
    (hA : dyArg m c = Layout.blockN ⟨2, ![1024, 4096]⟩ ⟨2, ![1024, 8192]⟩ (Layout.meshBlock [2, 2, 2] ![[], [1]] c) A)
    (hB : wArg m c = Layout.blockN ⟨2, ![1024, 4096]⟩ ⟨2, ![1024, 8192]⟩ (Layout.meshBlock [2, 2, 2] ![[], [1]] c) B)
    (i j : Fin 1024) :
    half m c i j = ∑ k : Fin 4096, A (ix2 i (posOf h hh k)) * B (ix2 j (posOf h hh k)) := by
  unfold half
  rw [hA, hB]
  exact Finset.sum_congr rfl fun k _ => congrArg₂ (fun x y : EReal => x * y) (block_at A c _ _ h hh hc i k) (block_at B c _ _ h hh hc j k)

/-- The result on every device: the whole product. -/
theorem FO_sum (A B : (⟨2, ![1024, 8192]⟩ : Shape).Idx → EReal)
    (hA : ∀ c : Dev nD, dyArg m c = Layout.blockN ⟨2, ![1024, 4096]⟩ ⟨2, ![1024, 8192]⟩ (Layout.meshBlock [2, 2, 2] ![[], [1]] c) A)
    (hB : ∀ c : Dev nD, wArg m c = Layout.blockN ⟨2, ![1024, 4096]⟩ ⟨2, ![1024, 8192]⟩ (Layout.meshBlock [2, 2, 2] ![[], [1]] c) B)
    (c : Dev nD) (i j : Fin 1024) :
    FO m c (ix2 i j) = ∑ k : Fin 8192, A (ix2 i k) * B (ix2 j k) := by
  rw [FO_at, sum_halves]
  generalize src c (i.val / 256) = d
  have hd := dev_lt d
  have hp : (py d).val = (4 * (d.val / 4) + (d.val % 2) + 2) - 2 * ((d.val / 2) % 2) := rfl
  rcases (by omega : d.val / 2 % 2 = 0 ∨ d.val / 2 % 2 = 1) with h | h
  · rw [half_at m A B d 0 (by decide) h (hA d) (hB d), half_at m A B (py d) 1 (by decide) (by omega) (hA _) (hB _)]
  · rw [half_at m A B d 1 (by decide) h (hA d) (hB d), half_at m A B (py d) 0 (by decide) (by omega) (hA _) (hB _)]
    exact add_comm _ _

/-! ## The reference -/

/-- The reference's result at an element. -/
theorem ref_at (A B : FVec Ideal Cert.ReferenceIdeal.S1024x8192 .f32) (i j : Fin 1024) :
    truncf (F := Ideal) .bf16 (Host.dotGeneral Cert.ReferenceIdeal.dot_S1024x8192_S8192x1024_S1024x1024_1_0_0_1_n_n none A
      (transpose Cert.ReferenceIdeal.S8192x1024 [1, 0] B Cert.ReferenceIdeal.Facts₀.transposes_S1024x8192_S8192x1024_1_0))
      Cert.ReferenceIdeal.Facts₀.bitsLt_bf16_f32 (ix2 i j) = (∑ k : Fin 8192, (A (ix2 i k) * B (ix2 j k) : EReal) : EReal) := by
  refine (StackMember.dotGeneral_plain_apply (m := 1024) (n := 1024) (k := 8192) none A
    (transpose Cert.ReferenceIdeal.S8192x1024 [1, 0] B Cert.ReferenceIdeal.Facts₀.transposes_S1024x8192_S8192x1024_1_0) i j).trans ?_
  refine Finset.sum_congr rfl fun k _ => congrArg (fun z : EReal => (A (ix2 i k) : EReal) * z) ?_
  refine transpose_apply (s := Cert.ReferenceIdeal.S1024x8192) (t := Cert.ReferenceIdeal.S8192x1024) [1, 0] B _ (ix2 k j) (ix2 j k) fun b => ?_
  match b with
  | ⟨0, _⟩ => rfl
  | ⟨1, _⟩ => rfl

/-- Every device's result is the reference's, where the devices hold the blocks of the reference's arguments. -/
theorem FO_ref (A B : FVec Ideal Cert.ReferenceIdeal.S1024x8192 .f32)
    (hA : ∀ c : Dev nD, dyArg m c = Layout.blockN ⟨2, ![1024, 4096]⟩ ⟨2, ![1024, 8192]⟩ (Layout.meshBlock [2, 2, 2] ![[], [1]] c) A)
    (hB : ∀ c : Dev nD, wArg m c = Layout.blockN ⟨2, ![1024, 4096]⟩ ⟨2, ![1024, 8192]⟩ (Layout.meshBlock [2, 2, 2] ![[], [1]] c) B)
    (c : Dev nD) :
    FO m c = truncf (F := Ideal) .bf16 (Host.dotGeneral Cert.ReferenceIdeal.dot_S1024x8192_S8192x1024_S1024x1024_1_0_0_1_n_n none A
      (transpose Cert.ReferenceIdeal.S8192x1024 [1, 0] B Cert.ReferenceIdeal.Facts₀.transposes_S1024x8192_S8192x1024_1_0))
      Cert.ReferenceIdeal.Facts₀.bitsLt_bf16_f32 := by
  funext x
  rw [eq_ix2 (n0 := 1024) (n1 := 1024) x]
  exact (FO_sum m A B hA hB c (x 0) (x 1)).trans (ref_at A B (x 0) (x 1)).symm

end Cert.KernelProof

end
-- ==== Proof.lean ====
/- The claims of `Cert.Claim` assembled: the kernel's run (Proof/Launch.lean) is proved once, over any float values, and read here for
   the kernel and for its ideal reading; over the extended reals its result is the reference's (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as compiled terminates, leaves its arguments alone and every counter at zero. -/
theorem frame_kernel : Cert.quiescent_Kernel := fun m ρ _ => Cert.KernelProof.same_run _ _
  ((θ_run Cert.KernelIdeal.defs _ _).mono (fun _ h => ⟨fun c => (h.1 c).2, h.2⟩) (Cert.KernelProof.run_main (F := Bits) m ρ))

/-- So does the kernel over the extended reals. -/
theorem frame_ideal : Cert.quiescent_KernelIdeal := fun m ρ _ =>
  (θ_run Cert.KernelIdeal.defs _ _).mono (fun _ h => ⟨fun c => (h.1 c).2, h.2⟩) (Cert.KernelProof.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result. -/
theorem algebraic : Cert.algebraic_KernelIdeal_ReferenceIdeal := fun m ρ m' ρ' _ h =>
  ⟨_, (θ_run Cert.KernelIdeal.defs _ _).mono
      (fun _ r c => ⟨(r.1 c).1.trans (Cert.KernelProof.FO_ref m _ _ (fun c => (h c).1) (fun c => (h c).2) c), (r.1 c).2⟩)
      (Cert.KernelProof.run_main (F := Ideal) m ρ),
    (θ_run Cert.ReferenceIdeal.defs _ _).mono (fun _ r => r 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
